-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S96x1024 : Shape := ⟨2, ![96, 1024]⟩
abbrev S160x1024 : Shape := ⟨2, ![160, 1024]⟩
abbrev S80 : Shape := ⟨1, ![80]⟩
abbrev S36 : Shape := ⟨1, ![36]⟩
abbrev S1 : Shape := ⟨1, ![1]⟩
abbrev S_ : Shape := ⟨0, ![]⟩
abbrev S16x1024 : Shape := ⟨2, ![16, 1024]⟩
abbrev S16 : Shape := ⟨1, ![16]⟩
abbrev S16x1 : Shape := ⟨2, ![16, 1]⟩

abbrev nBuf : Space → Nat
  | .hbm => 6
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S1024x1024, .f32⟩
  | .local _ .vmem, ⟨0, _⟩ => ⟨S1x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S96x1024, .f32⟩
  | .local _ .vmem, ⟨5, _⟩ => ⟨S96x1024, .f32⟩
  | .local _ .vmem, ⟨6, _⟩ => ⟨S96x1024, .f32⟩
  | .local _ .vmem, ⟨7, _⟩ => ⟨S256x1024, .f32⟩
  | .local _ .vmem, ⟨8, _⟩ => ⟨S96x1024, .f32⟩
  | .local _ .vmem, ⟨9, _⟩ => ⟨S160x1024, .f32⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 197 → Bool
  | ⟨i, _⟩ => dmaSemScopedAt i

abbrev sig : RefSig :=
  (ofTc nBuf bufTy 1 197 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v14 : BitVec 32 := Scalar.muli v13 c256_i32
  let c0_i32_18 : BitVec 32 := 0#32
  ![v14.toNat, 0]
def k0_off2 (d0 : Dev nD) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c256_i32_16 : BitVec 32 := 256#32
  let v27 : BitVec 32 := Scalar.muli v26 c256_i32_16
  let c160_i32 : BitVec 32 := 160#32
  let v28 : BitVec 32 := Scalar.addi v27 c160_i32
  let c0_i32_22 : BitVec 32 := 0#32
  ![v28.toNat, 0]
def k0_dev1 (d0 : Dev nD) : Nat :=
  let c0_i32_26 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_25 : BitVec 32 := 4#32
  let v43 : BitVec 32 := Scalar.muli v9 c4_i32_25
  let v44 : BitVec 32 := Scalar.addi c0_i32_26 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v45 : BitVec 32 := Scalar.muli v5 c2_i32_27
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v47 : BitVec 32 := Scalar.muli v8 c1_i32_28
  let v48 : BitVec 32 := Scalar.addi v46 v47
  v48.toNat
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v49 : BitVec 32 := Scalar.muli v2 c4_i32_30
  let v50 : BitVec 32 := Scalar.addi c0_i32_31 v49
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_32 : BitVec 32 := 2#32
  let v51 : BitVec 32 := Scalar.muli v10 c2_i32_32
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v53 : BitVec 32 := Scalar.muli v8 c1_i32_33
  let v54 : BitVec 32 := Scalar.addi v52 v53
  v54.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v55 : BitVec 32 := Scalar.muli v2 c4_i32_35
  let v56 : BitVec 32 := Scalar.addi c0_i32_36 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v57 : BitVec 32 := Scalar.muli v5 c2_i32_37
  let v58 : BitVec 32 := Scalar.addi v56 v57
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_38 : BitVec 32 := 1#32
  let v59 : BitVec 32 := Scalar.muli v11 c1_i32_38
  let v60 : BitVec 32 := Scalar.addi v58 v59
  v60.toNat
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v64 : BitVec 32 := Scalar.muli v2 c4_i32_44
  let v65 : BitVec 32 := Scalar.addi c0_i32_45 v64
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_46 : BitVec 32 := 2#32
  let v66 : BitVec 32 := Scalar.muli v10 c2_i32_46
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v68 : BitVec 32 := Scalar.muli v8 c1_i32_47
  let v69 : BitVec 32 := Scalar.addi v67 v68
  v69.toNat
def k0_dev5 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v76 : BitVec 32 := Scalar.muli v2 c4_i32_54
  let v77 : BitVec 32 := Scalar.addi c0_i32_55 v76
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_56 : BitVec 32 := 2#32
  let v78 : BitVec 32 := Scalar.muli v10 c2_i32_56
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v80 : BitVec 32 := Scalar.muli v8 c1_i32_57
  let v81 : BitVec 32 := Scalar.addi v79 v80
  v81.toNat
def k0_dev6 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v88 : BitVec 32 := Scalar.muli v2 c4_i32_63
  let v89 : BitVec 32 := Scalar.addi c0_i32_64 v88
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_65 : BitVec 32 := 2#32
  let v90 : BitVec 32 := Scalar.muli v10 c2_i32_65
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v92 : BitVec 32 := Scalar.muli v8 c1_i32_66
  let v93 : BitVec 32 := Scalar.addi v91 v92
  v93.toNat
def k0_dev7 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v100 : BitVec 32 := Scalar.muli v2 c4_i32_72
  let v101 : BitVec 32 := Scalar.addi c0_i32_73 v100
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_74 : BitVec 32 := 2#32
  let v102 : BitVec 32 := Scalar.muli v10 c2_i32_74
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v104 : BitVec 32 := Scalar.muli v8 c1_i32_75
  let v105 : BitVec 32 := Scalar.addi v103 v104
  v105.toNat
def k0_dev8 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v112 : BitVec 32 := Scalar.muli v2 c4_i32_81
  let v113 : BitVec 32 := Scalar.addi c0_i32_82 v112
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_83 : BitVec 32 := 2#32
  let v114 : BitVec 32 := Scalar.muli v10 c2_i32_83
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v116 : BitVec 32 := Scalar.muli v8 c1_i32_84
  let v117 : BitVec 32 := Scalar.addi v115 v116
  v117.toNat
def k0_dev9 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v124 : BitVec 32 := Scalar.muli v2 c4_i32_89
  let v125 : BitVec 32 := Scalar.addi c0_i32_90 v124
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_91 : BitVec 32 := 2#32
  let v126 : BitVec 32 := Scalar.muli v10 c2_i32_91
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v128 : BitVec 32 := Scalar.muli v8 c1_i32_92
  let v129 : BitVec 32 := Scalar.addi v127 v128
  v129.toNat
def k0_dev10 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v136 : BitVec 32 := Scalar.muli v2 c4_i32_97
  let v137 : BitVec 32 := Scalar.addi c0_i32_98 v136
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_99 : BitVec 32 := 2#32
  let v138 : BitVec 32 := Scalar.muli v10 c2_i32_99
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v140 : BitVec 32 := Scalar.muli v8 c1_i32_100
  let v141 : BitVec 32 := Scalar.addi v139 v140
  v141.toNat
def k0_dev11 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v148 : BitVec 32 := Scalar.muli v2 c4_i32_105
  let v149 : BitVec 32 := Scalar.addi c0_i32_106 v148
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_107 : BitVec 32 := 2#32
  let v150 : BitVec 32 := Scalar.muli v10 c2_i32_107
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v152 : BitVec 32 := Scalar.muli v8 c1_i32_108
  let v153 : BitVec 32 := Scalar.addi v151 v152
  v153.toNat
def k0_dev12 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v160 : BitVec 32 := Scalar.muli v2 c4_i32_113
  let v161 : BitVec 32 := Scalar.addi c0_i32_114 v160
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_115 : BitVec 32 := 2#32
  let v162 : BitVec 32 := Scalar.muli v10 c2_i32_115
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v164 : BitVec 32 := Scalar.muli v8 c1_i32_116
  let v165 : BitVec 32 := Scalar.addi v163 v164
  v165.toNat
def k0_dev13 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v172 : BitVec 32 := Scalar.muli v2 c4_i32_121
  let v173 : BitVec 32 := Scalar.addi c0_i32_122 v172
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_123 : BitVec 32 := 2#32
  let v174 : BitVec 32 := Scalar.muli v10 c2_i32_123
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v176 : BitVec 32 := Scalar.muli v8 c1_i32_124
  let v177 : BitVec 32 := Scalar.addi v175 v176
  v177.toNat
def k0_dev14 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v184 : BitVec 32 := Scalar.muli v2 c4_i32_129
  let v185 : BitVec 32 := Scalar.addi c0_i32_130 v184
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_131 : BitVec 32 := 2#32
  let v186 : BitVec 32 := Scalar.muli v10 c2_i32_131
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v188 : BitVec 32 := Scalar.muli v8 c1_i32_132
  let v189 : BitVec 32 := Scalar.addi v187 v188
  v189.toNat
def k0_dev15 (d0 : Dev nD) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_138 : BitVec 32 := 4#32
  let v196 : BitVec 32 := Scalar.muli v2 c4_i32_138
  let v197 : BitVec 32 := Scalar.addi c0_i32_139 v196
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_140 : BitVec 32 := 2#32
  let v198 : BitVec 32 := Scalar.muli v10 c2_i32_140
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v200 : BitVec 32 := Scalar.muli v8 c1_i32_141
  let v201 : BitVec 32 := Scalar.addi v199 v200
  v201.toNat
def k0_dev16 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v208 : BitVec 32 := Scalar.muli v2 c4_i32_146
  let v209 : BitVec 32 := Scalar.addi c0_i32_147 v208
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_148 : BitVec 32 := 2#32
  let v210 : BitVec 32 := Scalar.muli v10 c2_i32_148
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v212 : BitVec 32 := Scalar.muli v8 c1_i32_149
  let v213 : BitVec 32 := Scalar.addi v211 v212
  v213.toNat
def k0_dev17 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v220 : BitVec 32 := Scalar.muli v2 c4_i32_154
  let v221 : BitVec 32 := Scalar.addi c0_i32_155 v220
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_156 : BitVec 32 := 2#32
  let v222 : BitVec 32 := Scalar.muli v10 c2_i32_156
  let v223 : BitVec 32 := Scalar.addi v221 v222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v224 : BitVec 32 := Scalar.muli v8 c1_i32_157
  let v225 : BitVec 32 := Scalar.addi v223 v224
  v225.toNat
def k0_dev18 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v232 : BitVec 32 := Scalar.muli v2 c4_i32_162
  let v233 : BitVec 32 := Scalar.addi c0_i32_163 v232
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_164 : BitVec 32 := 2#32
  let v234 : BitVec 32 := Scalar.muli v10 c2_i32_164
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v236 : BitVec 32 := Scalar.muli v8 c1_i32_165
  let v237 : BitVec 32 := Scalar.addi v235 v236
  v237.toNat
def k0_dev19 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v244 : BitVec 32 := Scalar.muli v2 c4_i32_170
  let v245 : BitVec 32 := Scalar.addi c0_i32_171 v244
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_172 : BitVec 32 := 2#32
  let v246 : BitVec 32 := Scalar.muli v10 c2_i32_172
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v248 : BitVec 32 := Scalar.muli v8 c1_i32_173
  let v249 : BitVec 32 := Scalar.addi v247 v248
  v249.toNat
def k0_dev20 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v259 : BitVec 32 := Scalar.muli v2 c4_i32_180
  let v260 : BitVec 32 := Scalar.addi c0_i32_181 v259
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_182 : BitVec 32 := 2#32
  let v261 : BitVec 32 := Scalar.muli v10 c2_i32_182
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v263 : BitVec 32 := Scalar.muli v8 c1_i32_183
  let v264 : BitVec 32 := Scalar.addi v262 v263
  v264.toNat
def k0_dev21 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v271 : BitVec 32 := Scalar.muli v2 c4_i32_189
  let v272 : BitVec 32 := Scalar.addi c0_i32_190 v271
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_191 : BitVec 32 := 2#32
  let v273 : BitVec 32 := Scalar.muli v10 c2_i32_191
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v275 : BitVec 32 := Scalar.muli v8 c1_i32_192
  let v276 : BitVec 32 := Scalar.addi v274 v275
  v276.toNat
def k0_dev22 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v283 : BitVec 32 := Scalar.muli v2 c4_i32_198
  let v284 : BitVec 32 := Scalar.addi c0_i32_199 v283
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_200 : BitVec 32 := 2#32
  let v285 : BitVec 32 := Scalar.muli v10 c2_i32_200
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v287 : BitVec 32 := Scalar.muli v8 c1_i32_201
  let v288 : BitVec 32 := Scalar.addi v286 v287
  v288.toNat
def k0_dev23 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v295 : BitVec 32 := Scalar.muli v2 c4_i32_207
  let v296 : BitVec 32 := Scalar.addi c0_i32_208 v295
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_209 : BitVec 32 := 2#32
  let v297 : BitVec 32 := Scalar.muli v10 c2_i32_209
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v299 : BitVec 32 := Scalar.muli v8 c1_i32_210
  let v300 : BitVec 32 := Scalar.addi v298 v299
  v300.toNat
def k0_dev24 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v307 : BitVec 32 := Scalar.muli v2 c4_i32_216
  let v308 : BitVec 32 := Scalar.addi c0_i32_217 v307
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_218 : BitVec 32 := 2#32
  let v309 : BitVec 32 := Scalar.muli v10 c2_i32_218
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v311 : BitVec 32 := Scalar.muli v8 c1_i32_219
  let v312 : BitVec 32 := Scalar.addi v310 v311
  v312.toNat
def k0_dev25 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_225 : BitVec 32 := 4#32
  let v319 : BitVec 32 := Scalar.muli v2 c4_i32_225
  let v320 : BitVec 32 := Scalar.addi c0_i32_226 v319
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_227 : BitVec 32 := 2#32
  let v321 : BitVec 32 := Scalar.muli v10 c2_i32_227
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v323 : BitVec 32 := Scalar.muli v8 c1_i32_228
  let v324 : BitVec 32 := Scalar.addi v322 v323
  v324.toNat
def k0_off3 (d0 : Dev nD) (c0_i32_265 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v14 : BitVec 32 := Scalar.muli v13 c256_i32
  let v373 : BitVec 32 := Scalar.addi v14 c0_i32_265
  let c0_i32_267 : BitVec 32 := 0#32
  ![v373.toNat, 0]
def k0_dev26 (d0 : Dev nD) : Nat :=
  let c0_i32_273 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_272 : BitVec 32 := 4#32
  let v378 : BitVec 32 := Scalar.muli v9 c4_i32_272
  let v379 : BitVec 32 := Scalar.addi c0_i32_273 v378
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v380 : BitVec 32 := Scalar.muli v5 c2_i32_274
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_275 : BitVec 32 := 1#32
  let v382 : BitVec 32 := Scalar.muli v8 c1_i32_275
  let v383 : BitVec 32 := Scalar.addi v381 v382
  v383.toNat
def k0_dev27 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_282 : BitVec 32 := 4#32
  let v390 : BitVec 32 := Scalar.muli v2 c4_i32_282
  let v391 : BitVec 32 := Scalar.addi c0_i32_283 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_284 : BitVec 32 := 2#32
  let v392 : BitVec 32 := Scalar.muli v5 c2_i32_284
  let v393 : BitVec 32 := Scalar.addi v391 v392
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_285 : BitVec 32 := 1#32
  let v394 : BitVec 32 := Scalar.muli v11 c1_i32_285
  let v395 : BitVec 32 := Scalar.addi v393 v394
  v395.toNat
def k0_dev28 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v443 : BitVec 32 := Scalar.muli v2 c4_i32_324
  let v444 : BitVec 32 := Scalar.addi c0_i32_325 v443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v445 : BitVec 32 := Scalar.muli v5 c2_i32_326
  let v446 : BitVec 32 := Scalar.addi v444 v445
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_327 : BitVec 32 := 1#32
  let v447 : BitVec 32 := Scalar.muli v11 c1_i32_327
  let v448 : BitVec 32 := Scalar.addi v446 v447
  v448.toNat
def k0_dev29 (d0 : Dev nD) : Nat :=
  let c0_i32_334 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_333 : BitVec 32 := 4#32
  let v455 : BitVec 32 := Scalar.muli v9 c4_i32_333
  let v456 : BitVec 32 := Scalar.addi c0_i32_334 v455
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_335 : BitVec 32 := 2#32
  let v457 : BitVec 32 := Scalar.muli v5 c2_i32_335
  let v458 : BitVec 32 := Scalar.addi v456 v457
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_336 : BitVec 32 := 1#32
  let v459 : BitVec 32 := Scalar.muli v8 c1_i32_336
  let v460 : BitVec 32 := Scalar.addi v458 v459
  v460.toNat
def k0_dev30 (d0 : Dev nD) : Nat :=
  let c0_i32_376 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_375 : BitVec 32 := 4#32
  let v508 : BitVec 32 := Scalar.muli v9 c4_i32_375
  let v509 : BitVec 32 := Scalar.addi c0_i32_376 v508
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v510 : BitVec 32 := Scalar.muli v5 c2_i32_377
  let v511 : BitVec 32 := Scalar.addi v509 v510
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_378 : BitVec 32 := 1#32
  let v512 : BitVec 32 := Scalar.muli v8 c1_i32_378
  let v513 : BitVec 32 := Scalar.addi v511 v512
  v513.toNat
def k0_dev31 (d0 : Dev nD) : Nat :=
  let c0_i32_385 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_384 : BitVec 32 := 4#32
  let v520 : BitVec 32 := Scalar.muli v2 c4_i32_384
  let v521 : BitVec 32 := Scalar.addi c0_i32_385 v520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v522 : BitVec 32 := Scalar.muli v5 c2_i32_386
  let v523 : BitVec 32 := Scalar.addi v521 v522
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_387 : BitVec 32 := 1#32
  let v524 : BitVec 32 := Scalar.muli v11 c1_i32_387
  let v525 : BitVec 32 := Scalar.addi v523 v524
  v525.toNat
def k0_dev32 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v573 : BitVec 32 := Scalar.muli v2 c4_i32_426
  let v574 : BitVec 32 := Scalar.addi c0_i32_427 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v575 : BitVec 32 := Scalar.muli v5 c2_i32_428
  let v576 : BitVec 32 := Scalar.addi v574 v575
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_429 : BitVec 32 := 1#32
  let v577 : BitVec 32 := Scalar.muli v11 c1_i32_429
  let v578 : BitVec 32 := Scalar.addi v576 v577
  v578.toNat
def k0_dev33 (d0 : Dev nD) : Nat :=
  let c0_i32_436 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_435 : BitVec 32 := 4#32
  let v585 : BitVec 32 := Scalar.muli v9 c4_i32_435
  let v586 : BitVec 32 := Scalar.addi c0_i32_436 v585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v587 : BitVec 32 := Scalar.muli v5 c2_i32_437
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v589 : BitVec 32 := Scalar.muli v8 c1_i32_438
  let v590 : BitVec 32 := Scalar.addi v588 v589
  v590.toNat
def k0_dev34 (d0 : Dev nD) : Nat :=
  let c0_i32_478 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_477 : BitVec 32 := 4#32
  let v638 : BitVec 32 := Scalar.muli v9 c4_i32_477
  let v639 : BitVec 32 := Scalar.addi c0_i32_478 v638
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v640 : BitVec 32 := Scalar.muli v5 c2_i32_479
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_480 : BitVec 32 := 1#32
  let v642 : BitVec 32 := Scalar.muli v8 c1_i32_480
  let v643 : BitVec 32 := Scalar.addi v641 v642
  v643.toNat
def k0_dev35 (d0 : Dev nD) : Nat :=
  let c0_i32_487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_486 : BitVec 32 := 4#32
  let v650 : BitVec 32 := Scalar.muli v2 c4_i32_486
  let v651 : BitVec 32 := Scalar.addi c0_i32_487 v650
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_488 : BitVec 32 := 2#32
  let v652 : BitVec 32 := Scalar.muli v5 c2_i32_488
  let v653 : BitVec 32 := Scalar.addi v651 v652
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_489 : BitVec 32 := 1#32
  let v654 : BitVec 32 := Scalar.muli v11 c1_i32_489
  let v655 : BitVec 32 := Scalar.addi v653 v654
  v655.toNat
def k0_dev36 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v703 : BitVec 32 := Scalar.muli v2 c4_i32_528
  let v704 : BitVec 32 := Scalar.addi c0_i32_529 v703
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v705 : BitVec 32 := Scalar.muli v5 c2_i32_530
  let v706 : BitVec 32 := Scalar.addi v704 v705
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_531 : BitVec 32 := 1#32
  let v707 : BitVec 32 := Scalar.muli v11 c1_i32_531
  let v708 : BitVec 32 := Scalar.addi v706 v707
  v708.toNat
def k0_dev37 (d0 : Dev nD) : Nat :=
  let c0_i32_538 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_537 : BitVec 32 := 4#32
  let v715 : BitVec 32 := Scalar.muli v9 c4_i32_537
  let v716 : BitVec 32 := Scalar.addi c0_i32_538 v715
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_539 : BitVec 32 := 2#32
  let v717 : BitVec 32 := Scalar.muli v5 c2_i32_539
  let v718 : BitVec 32 := Scalar.addi v716 v717
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_540 : BitVec 32 := 1#32
  let v719 : BitVec 32 := Scalar.muli v8 c1_i32_540
  let v720 : BitVec 32 := Scalar.addi v718 v719
  v720.toNat
def k0_dev38 (d0 : Dev nD) : Nat :=
  let c0_i32_580 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_579 : BitVec 32 := 4#32
  let v768 : BitVec 32 := Scalar.muli v9 c4_i32_579
  let v769 : BitVec 32 := Scalar.addi c0_i32_580 v768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_581 : BitVec 32 := 2#32
  let v770 : BitVec 32 := Scalar.muli v5 c2_i32_581
  let v771 : BitVec 32 := Scalar.addi v769 v770
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_582 : BitVec 32 := 1#32
  let v772 : BitVec 32 := Scalar.muli v8 c1_i32_582
  let v773 : BitVec 32 := Scalar.addi v771 v772
  v773.toNat
def k0_dev39 (d0 : Dev nD) : Nat :=
  let c0_i32_589 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_588 : BitVec 32 := 4#32
  let v780 : BitVec 32 := Scalar.muli v2 c4_i32_588
  let v781 : BitVec 32 := Scalar.addi c0_i32_589 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_590 : BitVec 32 := 2#32
  let v782 : BitVec 32 := Scalar.muli v5 c2_i32_590
  let v783 : BitVec 32 := Scalar.addi v781 v782
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_591 : BitVec 32 := 1#32
  let v784 : BitVec 32 := Scalar.muli v11 c1_i32_591
  let v785 : BitVec 32 := Scalar.addi v783 v784
  v785.toNat
def k0_dev40 (d0 : Dev nD) : Nat :=
  let c0_i32_631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_630 : BitVec 32 := 4#32
  let v833 : BitVec 32 := Scalar.muli v2 c4_i32_630
  let v834 : BitVec 32 := Scalar.addi c0_i32_631 v833
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_632 : BitVec 32 := 2#32
  let v835 : BitVec 32 := Scalar.muli v5 c2_i32_632
  let v836 : BitVec 32 := Scalar.addi v834 v835
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_633 : BitVec 32 := 1#32
  let v837 : BitVec 32 := Scalar.muli v11 c1_i32_633
  let v838 : BitVec 32 := Scalar.addi v836 v837
  v838.toNat
def k0_dev41 (d0 : Dev nD) : Nat :=
  let c0_i32_640 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_639 : BitVec 32 := 4#32
  let v845 : BitVec 32 := Scalar.muli v9 c4_i32_639
  let v846 : BitVec 32 := Scalar.addi c0_i32_640 v845
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_641 : BitVec 32 := 2#32
  let v847 : BitVec 32 := Scalar.muli v5 c2_i32_641
  let v848 : BitVec 32 := Scalar.addi v846 v847
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_642 : BitVec 32 := 1#32
  let v849 : BitVec 32 := Scalar.muli v8 c1_i32_642
  let v850 : BitVec 32 := Scalar.addi v848 v849
  v850.toNat
def k0_dev42 (d0 : Dev nD) : Nat :=
  let c0_i32_682 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_681 : BitVec 32 := 4#32
  let v898 : BitVec 32 := Scalar.muli v9 c4_i32_681
  let v899 : BitVec 32 := Scalar.addi c0_i32_682 v898
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_683 : BitVec 32 := 2#32
  let v900 : BitVec 32 := Scalar.muli v5 c2_i32_683
  let v901 : BitVec 32 := Scalar.addi v899 v900
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_684 : BitVec 32 := 1#32
  let v902 : BitVec 32 := Scalar.muli v8 c1_i32_684
  let v903 : BitVec 32 := Scalar.addi v901 v902
  v903.toNat
def k0_dev43 (d0 : Dev nD) : Nat :=
  let c0_i32_691 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_690 : BitVec 32 := 4#32
  let v910 : BitVec 32 := Scalar.muli v2 c4_i32_690
  let v911 : BitVec 32 := Scalar.addi c0_i32_691 v910
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_692 : BitVec 32 := 2#32
  let v912 : BitVec 32 := Scalar.muli v5 c2_i32_692
  let v913 : BitVec 32 := Scalar.addi v911 v912
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_693 : BitVec 32 := 1#32
  let v914 : BitVec 32 := Scalar.muli v11 c1_i32_693
  let v915 : BitVec 32 := Scalar.addi v913 v914
  v915.toNat
def k0_dev44 (d0 : Dev nD) : Nat :=
  let c0_i32_733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_732 : BitVec 32 := 4#32
  let v963 : BitVec 32 := Scalar.muli v2 c4_i32_732
  let v964 : BitVec 32 := Scalar.addi c0_i32_733 v963
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_734 : BitVec 32 := 2#32
  let v965 : BitVec 32 := Scalar.muli v5 c2_i32_734
  let v966 : BitVec 32 := Scalar.addi v964 v965
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_735 : BitVec 32 := 1#32
  let v967 : BitVec 32 := Scalar.muli v11 c1_i32_735
  let v968 : BitVec 32 := Scalar.addi v966 v967
  v968.toNat
def k0_dev45 (d0 : Dev nD) : Nat :=
  let c0_i32_742 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_741 : BitVec 32 := 4#32
  let v975 : BitVec 32 := Scalar.muli v9 c4_i32_741
  let v976 : BitVec 32 := Scalar.addi c0_i32_742 v975
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_743 : BitVec 32 := 2#32
  let v977 : BitVec 32 := Scalar.muli v5 c2_i32_743
  let v978 : BitVec 32 := Scalar.addi v976 v977
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_744 : BitVec 32 := 1#32
  let v979 : BitVec 32 := Scalar.muli v8 c1_i32_744
  let v980 : BitVec 32 := Scalar.addi v978 v979
  v980.toNat
def k0_dev46 (d0 : Dev nD) : Nat :=
  let c0_i32_784 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_783 : BitVec 32 := 4#32
  let v1028 : BitVec 32 := Scalar.muli v9 c4_i32_783
  let v1029 : BitVec 32 := Scalar.addi c0_i32_784 v1028
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_785 : BitVec 32 := 2#32
  let v1030 : BitVec 32 := Scalar.muli v5 c2_i32_785
  let v1031 : BitVec 32 := Scalar.addi v1029 v1030
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_786 : BitVec 32 := 1#32
  let v1032 : BitVec 32 := Scalar.muli v8 c1_i32_786
  let v1033 : BitVec 32 := Scalar.addi v1031 v1032
  v1033.toNat
def k0_dev47 (d0 : Dev nD) : Nat :=
  let c0_i32_792 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_791 : BitVec 32 := 4#32
  let v1040 : BitVec 32 := Scalar.muli v2 c4_i32_791
  let v1041 : BitVec 32 := Scalar.addi c0_i32_792 v1040
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_793 : BitVec 32 := 2#32
  let v1042 : BitVec 32 := Scalar.muli v5 c2_i32_793
  let v1043 : BitVec 32 := Scalar.addi v1041 v1042
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_794 : BitVec 32 := 1#32
  let v1044 : BitVec 32 := Scalar.muli v11 c1_i32_794
  let v1045 : BitVec 32 := Scalar.addi v1043 v1044
  v1045.toNat
def k0_dev48 (d0 : Dev nD) : Nat :=
  let c0_i32_834 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_833 : BitVec 32 := 4#32
  let v1093 : BitVec 32 := Scalar.muli v9 c4_i32_833
  let v1094 : BitVec 32 := Scalar.addi c0_i32_834 v1093
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_835 : BitVec 32 := 2#32
  let v1095 : BitVec 32 := Scalar.muli v5 c2_i32_835
  let v1096 : BitVec 32 := Scalar.addi v1094 v1095
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_836 : BitVec 32 := 1#32
  let v1097 : BitVec 32 := Scalar.muli v8 c1_i32_836
  let v1098 : BitVec 32 := Scalar.addi v1096 v1097
  v1098.toNat
def k0_dev49 (d0 : Dev nD) : Nat :=
  let c0_i32_842 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_841 : BitVec 32 := 4#32
  let v1105 : BitVec 32 := Scalar.muli v2 c4_i32_841
  let v1106 : BitVec 32 := Scalar.addi c0_i32_842 v1105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_843 : BitVec 32 := 2#32
  let v1107 : BitVec 32 := Scalar.muli v5 c2_i32_843
  let v1108 : BitVec 32 := Scalar.addi v1106 v1107
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_844 : BitVec 32 := 1#32
  let v1109 : BitVec 32 := Scalar.muli v11 c1_i32_844
  let v1110 : BitVec 32 := Scalar.addi v1108 v1109
  v1110.toNat
def k0_dev50 (d0 : Dev nD) : Nat :=
  let c0_i32_884 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_883 : BitVec 32 := 4#32
  let v1158 : BitVec 32 := Scalar.muli v9 c4_i32_883
  let v1159 : BitVec 32 := Scalar.addi c0_i32_884 v1158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_885 : BitVec 32 := 2#32
  let v1160 : BitVec 32 := Scalar.muli v5 c2_i32_885
  let v1161 : BitVec 32 := Scalar.addi v1159 v1160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_886 : BitVec 32 := 1#32
  let v1162 : BitVec 32 := Scalar.muli v8 c1_i32_886
  let v1163 : BitVec 32 := Scalar.addi v1161 v1162
  v1163.toNat
def k0_dev51 (d0 : Dev nD) : Nat :=
  let c0_i32_892 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_891 : BitVec 32 := 4#32
  let v1170 : BitVec 32 := Scalar.muli v2 c4_i32_891
  let v1171 : BitVec 32 := Scalar.addi c0_i32_892 v1170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_893 : BitVec 32 := 2#32
  let v1172 : BitVec 32 := Scalar.muli v5 c2_i32_893
  let v1173 : BitVec 32 := Scalar.addi v1171 v1172
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_894 : BitVec 32 := 1#32
  let v1174 : BitVec 32 := Scalar.muli v11 c1_i32_894
  let v1175 : BitVec 32 := Scalar.addi v1173 v1174
  v1175.toNat
def k0_dev52 (d0 : Dev nD) : Nat :=
  let c0_i32_933 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_932 : BitVec 32 := 4#32
  let v1223 : BitVec 32 := Scalar.muli v9 c4_i32_932
  let v1224 : BitVec 32 := Scalar.addi c0_i32_933 v1223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_934 : BitVec 32 := 2#32
  let v1225 : BitVec 32 := Scalar.muli v5 c2_i32_934
  let v1226 : BitVec 32 := Scalar.addi v1224 v1225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_935 : BitVec 32 := 1#32
  let v1227 : BitVec 32 := Scalar.muli v8 c1_i32_935
  let v1228 : BitVec 32 := Scalar.addi v1226 v1227
  v1228.toNat
def k0_dev53 (d0 : Dev nD) : Nat :=
  let c0_i32_941 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_940 : BitVec 32 := 4#32
  let v1235 : BitVec 32 := Scalar.muli v2 c4_i32_940
  let v1236 : BitVec 32 := Scalar.addi c0_i32_941 v1235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_942 : BitVec 32 := 2#32
  let v1237 : BitVec 32 := Scalar.muli v5 c2_i32_942
  let v1238 : BitVec 32 := Scalar.addi v1236 v1237
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_943 : BitVec 32 := 1#32
  let v1239 : BitVec 32 := Scalar.muli v11 c1_i32_943
  let v1240 : BitVec 32 := Scalar.addi v1238 v1239
  v1240.toNat
def k0_dev54 (d0 : Dev nD) : Nat :=
  let c0_i32_982 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_981 : BitVec 32 := 4#32
  let v1288 : BitVec 32 := Scalar.muli v9 c4_i32_981
  let v1289 : BitVec 32 := Scalar.addi c0_i32_982 v1288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_983 : BitVec 32 := 2#32
  let v1290 : BitVec 32 := Scalar.muli v5 c2_i32_983
  let v1291 : BitVec 32 := Scalar.addi v1289 v1290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_984 : BitVec 32 := 1#32
  let v1292 : BitVec 32 := Scalar.muli v8 c1_i32_984
  let v1293 : BitVec 32 := Scalar.addi v1291 v1292
  v1293.toNat
def k0_dev55 (d0 : Dev nD) : Nat :=
  let c0_i32_990 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_989 : BitVec 32 := 4#32
  let v1300 : BitVec 32 := Scalar.muli v2 c4_i32_989
  let v1301 : BitVec 32 := Scalar.addi c0_i32_990 v1300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_991 : BitVec 32 := 2#32
  let v1302 : BitVec 32 := Scalar.muli v5 c2_i32_991
  let v1303 : BitVec 32 := Scalar.addi v1301 v1302
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_992 : BitVec 32 := 1#32
  let v1304 : BitVec 32 := Scalar.muli v11 c1_i32_992
  let v1305 : BitVec 32 := Scalar.addi v1303 v1304
  v1305.toNat
def k0_dev56 (d0 : Dev nD) : Nat :=
  let c0_i32_1031 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1030 : BitVec 32 := 4#32
  let v1353 : BitVec 32 := Scalar.muli v9 c4_i32_1030
  let v1354 : BitVec 32 := Scalar.addi c0_i32_1031 v1353
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1032 : BitVec 32 := 2#32
  let v1355 : BitVec 32 := Scalar.muli v5 c2_i32_1032
  let v1356 : BitVec 32 := Scalar.addi v1354 v1355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1033 : BitVec 32 := 1#32
  let v1357 : BitVec 32 := Scalar.muli v8 c1_i32_1033
  let v1358 : BitVec 32 := Scalar.addi v1356 v1357
  v1358.toNat
def k0_dev57 (d0 : Dev nD) : Nat :=
  let c0_i32_1039 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1038 : BitVec 32 := 4#32
  let v1365 : BitVec 32 := Scalar.muli v2 c4_i32_1038
  let v1366 : BitVec 32 := Scalar.addi c0_i32_1039 v1365
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1040 : BitVec 32 := 2#32
  let v1367 : BitVec 32 := Scalar.muli v5 c2_i32_1040
  let v1368 : BitVec 32 := Scalar.addi v1366 v1367
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1041 : BitVec 32 := 1#32
  let v1369 : BitVec 32 := Scalar.muli v11 c1_i32_1041
  let v1370 : BitVec 32 := Scalar.addi v1368 v1369
  v1370.toNat
def k0_off4 (d0 : Dev nD) (c0_i32_1062 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c256_i32_9 : BitVec 32 := 256#32
  let v18 : BitVec 32 := Scalar.muli v17 c256_i32_9
  let v1391 : BitVec 32 := Scalar.addi v18 c0_i32_1062
  let c0_i32_1064 : BitVec 32 := 0#32
  ![v1391.toNat, 0]
def k0_dev58 (d0 : Dev nD) : Nat :=
  let c0_i32_1070 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1069 : BitVec 32 := 4#32
  let v1396 : BitVec 32 := Scalar.muli v2 c4_i32_1069
  let v1397 : BitVec 32 := Scalar.addi c0_i32_1070 v1396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1071 : BitVec 32 := 2#32
  let v1398 : BitVec 32 := Scalar.muli v5 c2_i32_1071
  let v1399 : BitVec 32 := Scalar.addi v1397 v1398
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1072 : BitVec 32 := 1#32
  let v1400 : BitVec 32 := Scalar.muli v11 c1_i32_1072
  let v1401 : BitVec 32 := Scalar.addi v1399 v1400
  v1401.toNat
def k0_off5 (d0 : Dev nD) (c16_i32_1093 : BitVec 32) : Fin 2 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let v21 : BitVec 32 := Scalar.addi v19 v20
  let c256_i32_12 : BitVec 32 := 256#32
  let v22 : BitVec 32 := Scalar.muli v21 c256_i32_12
  let v1422 : BitVec 32 := Scalar.addi v22 c16_i32_1093
  let c0_i32_1095 : BitVec 32 := 0#32
  ![v1422.toNat, 0]
def k0_dev59 (d0 : Dev nD) : Nat :=
  let c0_i32_1100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1099 : BitVec 32 := 4#32
  let v1427 : BitVec 32 := Scalar.muli v9 c4_i32_1099
  let v1428 : BitVec 32 := Scalar.addi c0_i32_1100 v1427
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1101 : BitVec 32 := 2#32
  let v1429 : BitVec 32 := Scalar.muli v5 c2_i32_1101
  let v1430 : BitVec 32 := Scalar.addi v1428 v1429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1102 : BitVec 32 := 1#32
  let v1431 : BitVec 32 := Scalar.muli v8 c1_i32_1102
  let v1432 : BitVec 32 := Scalar.addi v1430 v1431
  v1432.toNat
def k0_dev60 (d0 : Dev nD) : Nat :=
  let c0_i32_1130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1129 : BitVec 32 := 4#32
  let v1458 : BitVec 32 := Scalar.muli v2 c4_i32_1129
  let v1459 : BitVec 32 := Scalar.addi c0_i32_1130 v1458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1131 : BitVec 32 := 2#32
  let v1460 : BitVec 32 := Scalar.muli v5 c2_i32_1131
  let v1461 : BitVec 32 := Scalar.addi v1459 v1460
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1132 : BitVec 32 := 1#32
  let v1462 : BitVec 32 := Scalar.muli v11 c1_i32_1132
  let v1463 : BitVec 32 := Scalar.addi v1461 v1462
  v1463.toNat
def k0_dev61 (d0 : Dev nD) : Nat :=
  let c0_i32_1160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1159 : BitVec 32 := 4#32
  let v1489 : BitVec 32 := Scalar.muli v9 c4_i32_1159
  let v1490 : BitVec 32 := Scalar.addi c0_i32_1160 v1489
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1161 : BitVec 32 := 2#32
  let v1491 : BitVec 32 := Scalar.muli v5 c2_i32_1161
  let v1492 : BitVec 32 := Scalar.addi v1490 v1491
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1162 : BitVec 32 := 1#32
  let v1493 : BitVec 32 := Scalar.muli v8 c1_i32_1162
  let v1494 : BitVec 32 := Scalar.addi v1492 v1493
  v1494.toNat
def k0_dev62 (d0 : Dev nD) : Nat :=
  let c0_i32_1190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1189 : BitVec 32 := 4#32
  let v1520 : BitVec 32 := Scalar.muli v2 c4_i32_1189
  let v1521 : BitVec 32 := Scalar.addi c0_i32_1190 v1520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1191 : BitVec 32 := 2#32
  let v1522 : BitVec 32 := Scalar.muli v5 c2_i32_1191
  let v1523 : BitVec 32 := Scalar.addi v1521 v1522
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1192 : BitVec 32 := 1#32
  let v1524 : BitVec 32 := Scalar.muli v11 c1_i32_1192
  let v1525 : BitVec 32 := Scalar.addi v1523 v1524
  v1525.toNat
def k0_dev63 (d0 : Dev nD) : Nat :=
  let c0_i32_1220 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1219 : BitVec 32 := 4#32
  let v1551 : BitVec 32 := Scalar.muli v9 c4_i32_1219
  let v1552 : BitVec 32 := Scalar.addi c0_i32_1220 v1551
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1221 : BitVec 32 := 2#32
  let v1553 : BitVec 32 := Scalar.muli v5 c2_i32_1221
  let v1554 : BitVec 32 := Scalar.addi v1552 v1553
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1222 : BitVec 32 := 1#32
  let v1555 : BitVec 32 := Scalar.muli v8 c1_i32_1222
  let v1556 : BitVec 32 := Scalar.addi v1554 v1555
  v1556.toNat
def k0_dev64 (d0 : Dev nD) : Nat :=
  let c0_i32_1250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1249 : BitVec 32 := 4#32
  let v1582 : BitVec 32 := Scalar.muli v2 c4_i32_1249
  let v1583 : BitVec 32 := Scalar.addi c0_i32_1250 v1582
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1251 : BitVec 32 := 2#32
  let v1584 : BitVec 32 := Scalar.muli v5 c2_i32_1251
  let v1585 : BitVec 32 := Scalar.addi v1583 v1584
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1252 : BitVec 32 := 1#32
  let v1586 : BitVec 32 := Scalar.muli v11 c1_i32_1252
  let v1587 : BitVec 32 := Scalar.addi v1585 v1586
  v1587.toNat
def k0_dev65 (d0 : Dev nD) : Nat :=
  let c0_i32_1280 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1279 : BitVec 32 := 4#32
  let v1613 : BitVec 32 := Scalar.muli v9 c4_i32_1279
  let v1614 : BitVec 32 := Scalar.addi c0_i32_1280 v1613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1281 : BitVec 32 := 2#32
  let v1615 : BitVec 32 := Scalar.muli v5 c2_i32_1281
  let v1616 : BitVec 32 := Scalar.addi v1614 v1615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1282 : BitVec 32 := 1#32
  let v1617 : BitVec 32 := Scalar.muli v8 c1_i32_1282
  let v1618 : BitVec 32 := Scalar.addi v1616 v1617
  v1618.toNat
def k0_dev66 (d0 : Dev nD) : Nat :=
  let c0_i32_1310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1309 : BitVec 32 := 4#32
  let v1644 : BitVec 32 := Scalar.muli v2 c4_i32_1309
  let v1645 : BitVec 32 := Scalar.addi c0_i32_1310 v1644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1311 : BitVec 32 := 2#32
  let v1646 : BitVec 32 := Scalar.muli v5 c2_i32_1311
  let v1647 : BitVec 32 := Scalar.addi v1645 v1646
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1312 : BitVec 32 := 1#32
  let v1648 : BitVec 32 := Scalar.muli v11 c1_i32_1312
  let v1649 : BitVec 32 := Scalar.addi v1647 v1648
  v1649.toNat
def k0_dev67 (d0 : Dev nD) : Nat :=
  let c0_i32_1340 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1339 : BitVec 32 := 4#32
  let v1675 : BitVec 32 := Scalar.muli v9 c4_i32_1339
  let v1676 : BitVec 32 := Scalar.addi c0_i32_1340 v1675
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1341 : BitVec 32 := 2#32
  let v1677 : BitVec 32 := Scalar.muli v5 c2_i32_1341
  let v1678 : BitVec 32 := Scalar.addi v1676 v1677
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1342 : BitVec 32 := 1#32
  let v1679 : BitVec 32 := Scalar.muli v8 c1_i32_1342
  let v1680 : BitVec 32 := Scalar.addi v1678 v1679
  v1680.toNat
def k0_off6 (d0 : Dev nD) (c160_i32_1376 : BitVec 32) : Fin 2 → Nat :=
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c256_i32_16 : BitVec 32 := 256#32
  let v27 : BitVec 32 := Scalar.muli v26 c256_i32_16
  let v1723 : BitVec 32 := Scalar.addi v27 c160_i32_1376
  let c0_i32_1377 : BitVec 32 := 0#32
  ![v1723.toNat, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Prog.lean ====
/-
# The kernel's body, once per tile

The printed body names every tile of every buffer by itself. Here the same sequence of memory
operations is written with the tile's number as a parameter: a step per kind of tile and a loop over
the tiles. `body_eq` states that the printed body is this program.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Tiled

open Cert.KernelIdeal Cert.KernelIdeal.Gen
open Idealize.ShloMosaic Idealize.ShloMosaic.TcCoe
open Idealize.SL Idealize.SL.Sem

variable {F : FTy → Type} [FloatOps F]

/-- A program of one core of the kernel. -/
abbrev P (F : FTy → Type) [FloatOps F] (α : Type) : Type 1 := Prog (TpuEff nD τ sig (Elt F) Λ₀ .tc) α

/-! ## The buffers -/

/-- The core's summand, in HBM. -/
abbrev aP : Memref sig .tc .hbm S1024x1024 .f32 := Memref.whole main_v1
/-- The residual, in HBM. -/
abbrev aR : Memref sig .tc .hbm S1024x1024 .f32 := Memref.whole main_arg1
/-- The row of scales, staged. -/
abbrev aG : Memref sig .tc .vmem S1x1024 .f32 := Memref.whole cc0_stg0_0
/-- The result, in HBM. -/
abbrev aO : Memref sig .tc .hbm S1024x1024 .f32 := Memref.whole main_v3
/-- The core's own rows of its summand. -/
abbrev bP : Memref sig .tc .vmem S256x1024 .f32 := Memref.whole cc0_scratch0
/-- The core's own rows of the residual. -/
abbrev bR : Memref sig .tc .vmem S256x1024 .f32 := Memref.whole cc0_scratch1
/-- The same rows of the other summand, received. -/
abbrev bY : Memref sig .tc .vmem S256x1024 .f32 := Memref.whole cc0_scratch2
/-- The last rows of the diagonal group, of its summand. -/
abbrev bPd : Memref sig .tc .vmem S96x1024 .f32 := Memref.whole cc0_scratch3
/-- Those rows of the residual. -/
abbrev bRd : Memref sig .tc .vmem S96x1024 .f32 := Memref.whole cc0_scratch4
/-- Those rows of the other summand, received. -/
abbrev bYd : Memref sig .tc .vmem S96x1024 .f32 := Memref.whole cc0_scratch5
/-- The core's own rows of the result. -/
abbrev bV : Memref sig .tc .vmem S256x1024 .f32 := Memref.whole cc0_scratch6
/-- The last rows of the diagonal group's result. -/
abbrev bVd : Memref sig .tc .vmem S96x1024 .f32 := Memref.whole cc0_scratch7
/-- A neighbour's rows of the result, received to be passed on. -/
abbrev bI : Memref sig .tc .vmem S160x1024 .f32 := Memref.whole cc0_scratch8

theorem tileIn256 (t : Fin 16) : ∀ a, (![16 * t.val, 0] : Fin 2 → ℕ) a + S16x1024.size a ≤ S256x1024.size a := by
  revert t; decide
theorem tileIn160 (t : Fin 10) : ∀ a, (![16 * t.val, 0] : Fin 2 → ℕ) a + S16x1024.size a ≤ S160x1024.size a := by
  revert t; decide
theorem tileIn96 (t : Fin 6) : ∀ a, (![16 * t.val, 0] : Fin 2 → ℕ) a + S16x1024.size a ≤ S96x1024.size a := by
  revert t; decide

/-- Tile `t`'s rectangle in a buffer of 16, 10 or 6 tiles. -/
abbrev r256 (t : Fin 16) : Rect S256x1024 := Rect.unit (s := S256x1024) ![16 * t.val, 0] S16x1024.size (tileIn256 t)
abbrev r160 (t : Fin 10) : Rect S160x1024 := Rect.unit (s := S160x1024) ![16 * t.val, 0] S16x1024.size (tileIn160 t)
abbrev r96 (t : Fin 6) : Rect S96x1024 := Rect.unit (s := S96x1024) ![16 * t.val, 0] S16x1024.size (tileIn96 t)

/-- Tile `t` of a buffer of 16 tiles. -/
abbrev t256 (M : Memref sig .tc .vmem S256x1024 .f32) (t : Fin 16) : Memref sig .tc .vmem S16x1024 .f32 := M.slice (r256 t) (fun _ => rfl)
/-- Tile `t` of a buffer of 10 tiles. -/
abbrev t160 (M : Memref sig .tc .vmem S160x1024 .f32) (t : Fin 10) : Memref sig .tc .vmem S16x1024 .f32 := M.slice (r160 t) (fun _ => rfl)
/-- Tile `t` of a buffer of 6 tiles. -/
abbrev t96 (M : Memref sig .tc .vmem S96x1024 .f32) (t : Fin 6) : Memref sig .tc .vmem S16x1024 .f32 := M.slice (r96 t) (fun _ => rfl)

/-- The last six of sixteen tiles. -/
abbrev hi (i : Fin 6) : Fin 16 := ⟨10 + i.val, by omega⟩
/-- The first ten of sixteen tiles. -/
abbrev lo (t : Fin 10) : Fin 16 := ⟨t.val, by omega⟩

/-- Tile `t` of the result's group that core `d` computes, as the printed body addresses it. -/
abbrev oOwn (d : Dev nD) (t : Fin 16) : Memref sig .tc .hbm S16x1024 .f32 :=
  aO.slice (Rect.unit (s := S1024x1024) (k0_off3 d (BitVec.ofNat 32 (16 * t.val))) S16x1024.size (k0_off3_inb d t)) (fun _ => rfl)

/-- The row at which tile `t` received by core `d` goes: its x-neighbour's group for even tiles, its
z-neighbour's for odd ones. -/
def gotOff (d : Dev nD) (t : Fin 10) : Fin 2 → ℕ :=
  if t.val % 2 = 0 then k0_off4 d (BitVec.ofNat 32 (32 * (t.val / 2))) else k0_off5 d (BitVec.ofNat 32 (16 + 32 * (t.val / 2)))

theorem gotOff_inb (d : Dev nD) (t : Fin 10) : ∀ a, gotOff d t a + S16x1024.size a ≤ S1024x1024.size a := by
  have h : t.val / 2 < 5 := by omega
  unfold gotOff
  split
  · exact k0_off4_inb d ⟨t.val / 2, h⟩
  · exact k0_off5_inb d ⟨t.val / 2, h⟩

/-- Tile `t` of the result that core `d` received and stores. -/
abbrev oGot (d : Dev nD) (t : Fin 10) : Memref sig .tc .hbm S16x1024 .f32 :=
  aO.slice (Rect.unit (s := S1024x1024) (gotOff d t) S16x1024.size (gotOff_inb d t)) (fun _ => rfl)

/-- The last six tiles of the diagonal group of the result, which core `d` computes too. -/
abbrev oDiag (d : Dev nD) (i : Fin 6) : Memref sig .tc .hbm S16x1024 .f32 :=
  aO.slice (Rect.unit (s := S1024x1024) (k0_off6 d (BitVec.ofNat 32 (160 + 16 * i.val))) S16x1024.size (k0_off6_inb d i)) (fun _ => rfl)

/-- The core's own 256 rows, and the last 96 rows of its diagonal group, of an array in HBM. -/
abbrev own256 (A : Memref sig .tc .hbm S1024x1024 .f32) (d : Dev nD) : Memref sig .tc .hbm S256x1024 .f32 :=
  A.slice (Rect.unit (s := S1024x1024) (k0_off1 d) S256x1024.size (k0_off1_inb d)) (fun _ => rfl)
abbrev diag96 (A : Memref sig .tc .hbm S1024x1024 .f32) (d : Dev nD) : Memref sig .tc .hbm S96x1024 .f32 :=
  A.slice (Rect.unit (s := S1024x1024) (k0_off2 d) S96x1024.size (k0_off2_inb d)) (fun _ => rfl)

/-! ## The neighbours, the copies and the semaphores -/

/-- Core `d`'s neighbour along x, y and z, as the printed body computes it. -/
abbrev xn (d : Dev nD) : Dev nD := ⟨k0_dev1 d, k0_dev1_lt d⟩
abbrev yn (d : Dev nD) : Dev nD := ⟨k0_dev2 d, k0_dev2_lt d⟩
abbrev zn (d : Dev nD) : Dev nD := ⟨k0_dev3 d, k0_dev3_lt d⟩

/-- Core `d`'s neighbour along direction `j`: 0 is x, 1 is y, 2 is z. -/
def pr (d : Dev nD) (j : Fin 3) : Dev nD := match j with
  | 0 => xn d
  | 1 => yn d
  | 2 => zn d

/-- The copies a core sends: its summand's tiles (`y`) and the diagonal group's (`d`) along y; its own tiles of the
result to one neighbour (`s`) and to the other (`b`); the tiles it received, passed on (`w`). -/
inductive RC where
  | y (t : Fin 16) | d (i : Fin 6) | s (t : Fin 16) | b (t : Fin 16) | w (t : Fin 10)
deriving DecidableEq

/-- The copies within a core: the four that stage its rows (`cp`), and the stores of its own tiles (`st`), of the
diagonal group's (`sd`) and of the received ones (`sv`). -/
inductive LC where
  | cp (k : Fin 4) | st (t : Fin 16) | sd (i : Fin 6) | sv (t : Fin 10)
deriving DecidableEq

/-- The two kinds of copies, family by family. -/
def RC.sum : RC ≃ Fin 16 ⊕ Fin 6 ⊕ Fin 16 ⊕ Fin 16 ⊕ Fin 10 where
  toFun
    | .y t => .inl t
    | .d i => .inr (.inl i)
    | .s t => .inr (.inr (.inl t))
    | .b t => .inr (.inr (.inr (.inl t)))
    | .w t => .inr (.inr (.inr (.inr t)))
  invFun
    | .inl t => .y t
    | .inr (.inl i) => .d i
    | .inr (.inr (.inl t)) => .s t
    | .inr (.inr (.inr (.inl t))) => .b t
    | .inr (.inr (.inr (.inr t))) => .w t
  left_inv := by rintro (_ | _ | _ | _ | _) <;> rfl
  right_inv := by rintro (_ | _ | _ | _ | _) <;> rfl
def LC.sum : LC ≃ Fin 4 ⊕ Fin 16 ⊕ Fin 6 ⊕ Fin 10 where
  toFun
    | .cp k => .inl k
    | .st t => .inr (.inl t)
    | .sd i => .inr (.inr (.inl i))
    | .sv t => .inr (.inr (.inr t))
  invFun
    | .inl k => .cp k
    | .inr (.inl t) => .st t
    | .inr (.inr (.inl i)) => .sd i
    | .inr (.inr (.inr t)) => .sv t
  left_inv := by rintro (_ | _ | _ | _) <;> rfl
  right_inv := by rintro (_ | _ | _ | _) <;> rfl
instance : Fintype RC := Fintype.ofEquiv _ RC.sum.symm
instance : Fintype LC := Fintype.ofEquiv _ LC.sum.symm

/-- The place of a copy's semaphore in its array. -/
def RC.ix : RC → Fin 80
  | .y t => ⟨t.val, by omega⟩
  | .d i => ⟨26 + i.val, by omega⟩
  | .s t => ⟨32 + t.val, by omega⟩
  | .b t => ⟨48 + t.val, by omega⟩
  | .w t => ⟨64 + t.val, by omega⟩
def LC.ix : LC → Fin 36
  | .cp k => ⟨k.val, by omega⟩
  | .st t => ⟨4 + t.val, by omega⟩
  | .sd i => ⟨20 + i.val, by omega⟩
  | .sv t => ⟨26 + t.val, by omega⟩

/-- The direction a copy is sent in. -/
def RC.dir : RC → Fin 3
  | .y _ => 1
  | .d _ => 1
  | .s t => if t.val < 10 then (if t.val % 2 = 0 then 0 else 2) else 0
  | .b t => if t.val < 10 then (if t.val % 2 = 0 then 2 else 0) else 2
  | .w t => if t.val % 2 = 0 then 2 else 0

theorem semIn80 (k : Fin 80) : ∀ a, (![k.val] : Fin 1 → ℕ) a + S1.size a ≤ S80.size a := by
  intro a; fin_cases a; have := k.isLt; simp [Shape.size] ; omega
theorem semIn36 (k : Fin 36) : ∀ a, (![k.val] : Fin 1 → ℕ) a + S1.size a ≤ S36.size a := by
  intro a; fin_cases a; have := k.isLt; simp [Shape.size] ; omega

/-- The semaphore of a copy's send, of its receive, and of a local copy. -/
abbrev sSem (k : RC) : DmaSem sig :=
  ((cc0_scratch9.slice (Rect.unit (s := S80) ![k.ix.val] S1.size (semIn80 k.ix))).squeeze S_ squeezes_S1_S_).sem
abbrev rSem (k : RC) : DmaSem sig :=
  ((cc0_scratch10.slice (Rect.unit (s := S80) ![k.ix.val] S1.size (semIn80 k.ix))).squeeze S_ squeezes_S1_S_).sem
abbrev lSem (k : LC) : DmaSem sig :=
  ((cc0_scratch11.slice (Rect.unit (s := S36) ![k.ix.val] S1.size (semIn36 k.ix))).squeeze S_ squeezes_S1_S_).sem
/-- The barrier semaphore. -/
abbrev bSem : Sem sig := (SemArray.scalar (sig.barrier 0 rfl) : Sems sig S_).sem

/-! ## The steps -/

/-- Send a tile to VMEM of the neighbour. -/
def sendV (d : Dev nD) (k : RC) (src dst : Memref sig .tc .vmem S16x1024 .f32) : P F PUnit :=
  Prog.lift (.enqueueDma src (.remote (Dev.tc (pr d k.dir)) dst (.dma (sSem k))) (.dma (rSem k)) (View.wordExact_bits rfl) (View.wordExact_bits rfl) ⟨⟨rfl, Or.inl rfl⟩, trivial⟩)
/-- Send a tile to HBM of the neighbour. -/
def sendO (d : Dev nD) (k : RC) (src : Memref sig .tc .vmem S16x1024 .f32) (dst : Memref sig .tc .hbm S16x1024 .f32) : P F PUnit :=
  Prog.lift (.enqueueDma src (.remote (Dev.tc (pr d k.dir)) dst (.dma (sSem k))) (.dma (rSem k)) (View.wordExact_bits rfl) (View.wordExact_bits rfl) ⟨⟨rfl, Or.inl rfl⟩, trivial⟩)
/-- Start storing a tile to HBM of the core. -/
def putO (k : LC) (src : Memref sig .tc .vmem S16x1024 .f32) (dst : Memref sig .tc .hbm S16x1024 .f32) : P F PUnit :=
  Prog.lift (.enqueueDma src (.here dst) (.dma (lSem k)) (View.wordExact_bits rfl) (View.wordExact_bits rfl) ⟨Or.inl rfl, trivial⟩)
/-- Start reading rows of the core's HBM into a whole buffer. -/
def getI {s : Shape} (k : LC) (src : Memref sig .tc .hbm s .f32) (dst : Memref sig .tc .vmem s .f32) : P F PUnit :=
  Prog.lift (.enqueueDma src (.here dst) (.dma (lSem k)) (View.wordExact_bits rfl) (View.wordExact_bits rfl) ⟨Or.inl rfl, trivial⟩)
/-- Wait for what a semaphore is due when `dst` has been written. -/
def waitD {sp sp' : Space} {s : Shape} (sem : DmaSem sig) (src : Memref sig .tc sp s .f32) (dst : Memref sig .tc sp' s .f32) : P F PUnit :=
  Prog.lift (.waitDma2 sem src dst (View.wordExact_bits rfl) (View.wordExact_bits rfl))
/-- Wait for a remote copy: its own send, then the like one received. -/
def waitR {sp : Space} (k : RC) (src : Memref sig .tc .vmem S16x1024 .f32) (dst : Memref sig .tc sp S16x1024 .f32) : P F PUnit := do
  waitD (sSem k) dst src
  waitD (rSem k) src dst

/-- The body over the tiles `n - k, …, n - 1`, in order. -/
def loopFrom (n : ℕ) (f : Fin n → P F PUnit) : (k : ℕ) → k ≤ n → P F PUnit
  | 0, _ => pure ⟨⟩
  | k + 1, h => do
    f ⟨n - (k + 1), by omega⟩
    loopFrom n f k (by omega)
/-- The body over every tile, in order. -/
def loop (n : ℕ) (f : Fin n → P F PUnit) : P F PUnit := loopFrom n f n le_rfl

/-- One tile of the result: read the two summands' tiles, the residual's and the scales, normalise the rows, store. -/
def tileStep {N : ℕ} (A B R V : Memref sig .tc .vmem ⟨2, ![N, 1024]⟩ .f32) (o : Fin 2 → ℕ)
    (ho : ∀ a, o a + S16x1024.size a ≤ (⟨2, ![N, 1024]⟩ : Shape).size a) : P F PUnit := do
  let a : Vec F S16x1024 .f32 ← Prog.lift (.load A (Rect.unit (s := ⟨2, ![N, 1024]⟩) o S16x1024.size ho).toLoadRect (View.loadsAt_vmem h_S16x1024))
  let b : Vec F S16x1024 .f32 ← Prog.lift (.load B (Rect.unit (s := ⟨2, ![N, 1024]⟩) o S16x1024.size ho).toLoadRect (View.loadsAt_vmem h_S16x1024))
  let r : Vec F S16x1024 .f32 ← Prog.lift (.load R (Rect.unit (s := ⟨2, ![N, 1024]⟩) o S16x1024.size ho).toLoadRect (View.loadsAt_vmem h_S16x1024))
  let g : Vec F S1x1024 .f32 ← Prog.lift (.load aG (Rect.unit (s := S1x1024) ![0, 0] S1x1024.size inb_S1x1024_S1x1024_0_0).toLoadRect (View.loadsAt_vmem h_S1x1024))
  let _v : Vec F S16x1024 .f32 ← Prog.lift (.load V (Rect.unit (s := ⟨2, ![N, 1024]⟩) o S16x1024.size ho).toLoadRect (View.loadsAt_vmem h_S16x1024))
  Prog.lift (.store V (Rect.unit (s := ⟨2, ![N, 1024]⟩) o S16x1024.size ho) (k0_pay1 a b r g) Finset.univ (View.stores_vmem_bits_univ h_S16x1024 rfl) (.inl rfl))

/-- Stage the core's rows, tell the neighbours, and wait to be told by them. -/
def phaseA (d : Dev nD) : P F PUnit := do
  getI (.cp 0) (own256 aP d) bP
  getI (.cp 1) (own256 aR d) bR
  getI (.cp 2) (diag96 aP d) bPd
  getI (.cp 3) (diag96 aR d) bRd
  semSignalWord (xn d) bSem 1#32
  semSignalWord (yn d) bSem 1#32
  semSignalWord (zn d) bSem 1#32
  semWaitWord bSem 3#32

/-- Send tile `t` of the core's own summand. -/
def yStep (d : Dev nD) (t : Fin 16) : P F PUnit := sendV d (.y t) (t256 bP t) (t256 bY t)
/-- Send tile `i` of the diagonal group's summand. -/
def dStep (d : Dev nD) (i : Fin 6) : P F PUnit := sendV d (.d i) (t96 bPd i) (t96 bYd i)

/-- The two exchanges between the summands' holders, started. -/
def phaseB (d : Dev nD) : P F PUnit := do
  waitD (lSem (.cp 0)) (own256 aP d) bP
  loop 16 (yStep d)
  waitD (lSem (.cp 2)) (diag96 aP d) bPd
  loop 6 (dStep d)
  waitD (lSem (.cp 1)) (own256 aR d) bR
  waitD (lSem (.cp 3)) (diag96 aR d) bRd

/-- Tile `t` of the core's own group: received, computed, stored and sent to both neighbours. -/
def ownStep (d : Dev nD) (t : Fin 16) : P F PUnit := do
  waitR (.y t) (t256 bP t) (t256 bY t)
  tileStep bP bY bR bV ![16 * t.val, 0] (tileIn256 t)
  putO (.st t) (t256 bV t) (oOwn d t)
  if h : t.val < 10 then
    sendV d (.s t) (t256 bV t) (t160 bI ⟨t.val, h⟩)
  else
    sendO d (.s t) (t256 bV t) (oOwn d t)
  sendO d (.b t) (t256 bV t) (oOwn d t)

/-- Tile `t` received from a neighbour: stored and passed on. -/
def gotStep (d : Dev nD) (t : Fin 10) : P F PUnit := do
  waitR (.s (lo t)) (t256 bV (lo t)) (t160 bI t)
  putO (.sv t) (t160 bI t) (oGot d t)
  sendO d (.w t) (t160 bI t) (oGot d t)

/-- Tile `i` of the diagonal group: received, computed and stored. -/
def diagStep (d : Dev nD) (i : Fin 6) : P F PUnit := do
  waitR (.d i) (t96 bPd i) (t96 bYd i)
  tileStep bPd bYd bRd bVd ![16 * i.val, 0] (tileIn96 i)
  putO (.sd i) (t96 bVd i) (oDiag d i)

/-- Every copy still under way, awaited. -/
def phaseG (d : Dev nD) : P F PUnit := do
  loop 6 fun i => waitR (.s (hi i)) (t256 bV (hi i)) (oOwn d (hi i))
  loop 16 fun t => waitR (.b t) (t256 bV t) (oOwn d t)
  loop 10 fun t => waitR (.w t) (t160 bI t) (oGot d t)
  loop 16 fun t => waitD (lSem (.st t)) (t256 bV t) (oOwn d t)
  loop 10 fun t => waitD (lSem (.sv t)) (t160 bI t) (oGot d t)
  loop 6 fun i => waitD (lSem (.sd i)) (t96 bVd i) (oDiag d i)

/-- The whole body. -/
def body : P F PUnit := do
  let d : Dev nD ← Prog.lift .deviceId
  phaseA d
  phaseB d
  loop 16 (ownStep d)
  loop 10 (gotStep d)
  loop 6 (diagStep d)
  phaseG d

end Cert.KernelIdeal.Tiled
end
end
-- ==== Proof.Geo.lean ====
/-
# Which rows a core works on

The eight cores form a cube, core `4x + 2y + z`. The result's 1024 rows are four groups of 256, one
for each pair of an x and a z, and a group is sixteen tiles of sixteen rows. Here are the printed
offsets in closed form, and how a buffer divides into its tiles.
-/
module

public import proofs.«01_k».proof.Proof.Prog
public import Idealize.ShloMosaic.Lib.MemrefSat

@[expose] public section

noncomputable section

namespace Cert.KernelIdeal.Tiled

open Cert.KernelIdeal Cert.KernelIdeal.Gen
open Idealize.ShloMosaic Idealize.ShloMosaic.TcCoe Idealize.ShloMosaic.Pipeline
open Idealize.SL Idealize.SL.BI Idealize.SL.Sem

variable {F : FTy → Type} [FloatOps F]

/-- The group of rows a core computes. -/
def grp (d : Dev nD) : Fin 4 := ⟨2 * (d.val / 4) + d.val % 2, by have : d.val < 8 := d.isLt; omega⟩
/-- The diagonal group: its x-neighbour's z-neighbour's. -/
def dgrp (d : Dev nD) : Fin 4 := grp (pr (pr d 0) 2)

theorem pr_pr (d : Dev nD) (j : Fin 3) : pr (pr d j) j = d := by revert d j; decide
theorem pr_ne (d : Dev nD) : pr d 0 ≠ pr d 1 ∧ pr d 0 ≠ pr d 2 ∧ pr d 1 ≠ pr d 2 := by revert d; decide
theorem pr_comm (d : Dev nD) : pr (pr d 0) 2 = pr (pr d 2) 0 := by revert d; decide
theorem grp_y (d : Dev nD) : grp (pr d 1) = grp d := by revert d; decide
theorem dgrp_y (d : Dev nD) : dgrp (pr d 1) = dgrp d := by revert d; decide

/-- A direction's neighbours, paired. -/
def prE (j : Fin 3) : Dev nD ≃ Dev nD := ⟨(pr · j), (pr · j), fun d => pr_pr d j, fun d => pr_pr d j⟩

/-- The four groups as a core meets them: its own, its neighbours' along x and z, and the diagonal one. -/
def gs (d : Dev nD) (k : Fin 4) : Fin 4 := match k with
  | 0 => grp d
  | 1 => grp (pr d 0)
  | 2 => grp (pr d 2)
  | 3 => dgrp d
theorem gs_bij (d : Dev nD) : Function.Bijective (gs d) := by
  refine (Finite.injective_iff_bijective).mp ?_
  revert d; decide
def gsE (d : Dev nD) : Fin 4 ≃ Fin 4 := Equiv.ofBijective (gs d) (gs_bij d)

/-! ## The offsets -/

theorem off_own (d : Dev nD) (t : Fin 16) : k0_off3 d (BitVec.ofNat 32 (16 * t.val)) = ![256 * (grp d).val + 16 * t.val, 0] := by
  revert d t; decide
theorem off_got (d : Dev nD) (t : Fin 10) : gotOff d t = ![256 * (grp (pr d (RC.s (lo t)).dir)).val + 16 * t.val, 0] := by
  revert d t; decide
theorem off_diag (d : Dev nD) (i : Fin 6) : k0_off6 d (BitVec.ofNat 32 (160 + 16 * i.val)) = ![256 * (dgrp d).val + 16 * (hi i).val, 0] := by
  revert d i; decide
theorem off_own256 (d : Dev nD) : k0_off1 d = ![256 * (grp d).val, 0] := by revert d; decide
theorem off_diag96 (d : Dev nD) : k0_off2 d = ![256 * (dgrp d).val + 160, 0] := by revert d; decide

theorem tileIn (g : Fin 4) (t : Fin 16) : ∀ a, (![256 * g.val + 16 * t.val, 0] : Fin 2 → ℕ) a + S16x1024.size a ≤ S1024x1024.size a := by
  revert g t; decide
/-- Tile `t` of group `g`: its rectangle, and the result's rows there. -/
abbrev rT (g : Fin 4) (t : Fin 16) : Rect S1024x1024 := Rect.unit (s := S1024x1024) ![256 * g.val + 16 * t.val, 0] S16x1024.size (tileIn g t)
abbrev oT (g : Fin 4) (t : Fin 16) : Memref sig .tc .hbm S16x1024 .f32 := aO.slice (rT g t) (fun _ => rfl)

theorem slice_off {o o' : Fin 2 → ℕ} (e : o = o') (h : ∀ a, o a + S16x1024.size a ≤ S1024x1024.size a)
    (h' : ∀ a, o' a + S16x1024.size a ≤ S1024x1024.size a) :
    (aO.slice (Rect.unit (s := S1024x1024) o S16x1024.size h) (fun _ => rfl) : Memref sig .tc .hbm S16x1024 .f32)
      = aO.slice (Rect.unit (s := S1024x1024) o' S16x1024.size h') (fun _ => rfl) := by subst e; rfl
theorem oOwn_eq (d : Dev nD) (t : Fin 16) : oOwn d t = oT (grp d) t := slice_off (off_own d t) _ _
theorem oGot_eq (d : Dev nD) (t : Fin 10) : oGot d t = oT (grp (pr d (RC.s (lo t)).dir)) (lo t) := slice_off (off_got d t) _ _
theorem oDiag_eq (d : Dev nD) (i : Fin 6) : oDiag d i = oT (dgrp d) (hi i) := slice_off (off_diag d i) _ _

/-- The rows of tile `t` of group `g` of an array of 1024 rows. -/
def rows (A : Vec F S1024x1024 .f32) (g : Fin 4) (t : Fin 16) : Vec F S16x1024 .f32 := fun j => A ((rT g t).emb j)

/-- A core's own 256 rows of an array, and the diagonal group's last 96. -/
def ownRows (A : Vec F S1024x1024 .f32) (d : Dev nD) : Vec F S256x1024 .f32 := fun j =>
  A ((Rect.unit (s := S1024x1024) (k0_off1 d) S256x1024.size (k0_off1_inb d)).emb j)
def diagRows (A : Vec F S1024x1024 .f32) (d : Dev nD) : Vec F S96x1024 .f32 := fun j =>
  A ((Rect.unit (s := S1024x1024) (k0_off2 d) S96x1024.size (k0_off2_inb d)).emb j)

theorem ownRows_tile (A : Vec F S1024x1024 .f32) (d : Dev nD) (t : Fin 16) :
    (fun j => ownRows A d ((r256 t).emb j)) = rows A (grp d) t := by
  funext j
  refine congrArg A (funext fun a => Fin.ext ?_)
  have h := congrFun (off_own256 d) a
  show k0_off1 d a + 1 * ((![16 * t.val, 0] : Fin 2 → ℕ) a + 1 * (j a).val) = (![256 * (grp d).val + 16 * t.val, 0] : Fin 2 → ℕ) a + 1 * (j a).val
  rw [h]
  fin_cases a <;> simp <;> omega
theorem diagRows_tile (A : Vec F S1024x1024 .f32) (d : Dev nD) (i : Fin 6) :
    (fun j => diagRows A d ((r96 i).emb j)) = rows A (dgrp d) (hi i) := by
  funext j
  refine congrArg A (funext fun a => Fin.ext ?_)
  have h := congrFun (off_diag96 d) a
  show k0_off2 d a + 1 * ((![16 * i.val, 0] : Fin 2 → ℕ) a + 1 * (j a).val) = (![256 * (dgrp d).val + 16 * (10 + i.val), 0] : Fin 2 → ℕ) a + 1 * (j a).val
  rw [h]
  fin_cases a <;> simp <;> omega

/-! ## A buffer of rows is its tiles -/

/-- Tiles at different multiples of sixteen rows do not meet. -/
theorem tiles_disjoint {N : ℕ} {T : Type} (o : T → Fin 2 → ℕ) (n : T → ℕ) (ho : ∀ t, o t = ![16 * n t, 0]) (hn : Function.Injective n)
    (h : ∀ t a, o t a + S16x1024.size a ≤ (⟨2, ![N, 1024]⟩ : Shape).size a) (t t' : T) (ht : t ≠ t') :
    Disjoint (Rect.unit (s := ⟨2, ![N, 1024]⟩) (o t) S16x1024.size (h t)).set (Rect.unit (s := ⟨2, ![N, 1024]⟩) (o t') S16x1024.size (h t')).set := by
  refine Rect.unit_disjoint (0 : Fin 2) ?_
  rw [ho, ho]
  have : n t ≠ n t' := fun e => ht (hn e)
  show 16 * n t + 16 ≤ 16 * n t' ∨ 16 * n t' + 16 ≤ 16 * n t
  omega

/-- Tiles at every multiple of sixteen rows cover the buffer. -/
theorem tiles_cover {N : ℕ} {T : Type} [Fintype T] (o : T → Fin 2 → ℕ) (n : T → ℕ) (ho : ∀ t, o t = ![16 * n t, 0])
    (hs : ∀ k, 16 * k < N → ∃ t, n t = k)
    (h : ∀ t a, o t a + S16x1024.size a ≤ (⟨2, ![N, 1024]⟩ : Shape).size a) :
    (Finset.univ : Finset T).biUnion (fun t => (Rect.unit (s := ⟨2, ![N, 1024]⟩) (o t) S16x1024.size (h t)).set) = Finset.univ := by
  refine Finset.eq_univ_of_forall fun i => Finset.mem_biUnion.mpr ?_
  have h0 : (i (0 : Fin 2)).val < N := (i (0 : Fin 2)).isLt
  have h1 : (i (1 : Fin 2)).val < 1024 := (i (1 : Fin 2)).isLt
  obtain ⟨t, ht⟩ := hs ((i (0 : Fin 2)).val / 16) (by omega)
  refine ⟨t, Finset.mem_univ _, Rect.mem_set_unit.mpr fun a => ?_⟩
  rw [ho, ht]
  match a with
  | ⟨0, _⟩ =>
    show 16 * ((i (0 : Fin 2)).val / 16) ≤ (i (0 : Fin 2)).val ∧ (i (0 : Fin 2)).val < 16 * ((i (0 : Fin 2)).val / 16) + 16
    omega
  | ⟨1, _⟩ =>
    show 0 ≤ (i (1 : Fin 2)).val ∧ (i (1 : Fin 2)).val < 0 + 1024
    omega

theorem disj256 (t t' : Fin 16) (h : t ≠ t') : Disjoint (r256 t).set (r256 t').set :=
  tiles_disjoint (fun t : Fin 16 => ![16 * t.val, 0]) (fun t => t.val) (fun _ => rfl) Fin.val_injective tileIn256 t t' h
theorem disj160 (t t' : Fin 10) (h : t ≠ t') : Disjoint (r160 t).set (r160 t').set :=
  tiles_disjoint (fun t : Fin 10 => ![16 * t.val, 0]) (fun t => t.val) (fun _ => rfl) Fin.val_injective tileIn160 t t' h
theorem disj96 (t t' : Fin 6) (h : t ≠ t') : Disjoint (r96 t).set (r96 t').set :=
  tiles_disjoint (fun t : Fin 6 => ![16 * t.val, 0]) (fun t => t.val) (fun _ => rfl) Fin.val_injective tileIn96 t t' h
theorem cover256 : (Finset.univ : Finset (Fin 16)).biUnion (fun t => (r256 t).set) = Finset.univ :=
  tiles_cover (fun t : Fin 16 => ![16 * t.val, 0]) (fun t => t.val) (fun _ => rfl) (fun k hk => ⟨⟨k, by omega⟩, rfl⟩) tileIn256
theorem cover160 : (Finset.univ : Finset (Fin 10)).biUnion (fun t => (r160 t).set) = Finset.univ :=
  tiles_cover (fun t : Fin 10 => ![16 * t.val, 0]) (fun t => t.val) (fun _ => rfl) (fun k hk => ⟨⟨k, by omega⟩, rfl⟩) tileIn160
theorem cover96 : (Finset.univ : Finset (Fin 6)).biUnion (fun t => (r96 t).set) = Finset.univ :=
  tiles_cover (fun t : Fin 6 => ![16 * t.val, 0]) (fun t => t.val) (fun _ => rfl) (fun k hk => ⟨⟨k, by omega⟩, rfl⟩) tileIn96

theorem rT_off (x : Fin 4 × Fin 16) : (![256 * x.1.val + 16 * x.2.val, 0] : Fin 2 → ℕ) = ![16 * (16 * x.1.val + x.2.val), 0] := by
  congr 1; omega
theorem disjT (x x' : Fin 4 × Fin 16) (h : x ≠ x') : Disjoint (rT x.1 x.2).set (rT x'.1 x'.2).set :=
  tiles_disjoint (fun x : Fin 4 × Fin 16 => ![256 * x.1.val + 16 * x.2.val, 0]) (fun x => 16 * x.1.val + x.2.val) rT_off
    (fun x y e => by
      have e' : 16 * x.1.val + x.2.val = 16 * y.1.val + y.2.val := e
      exact Prod.ext (Fin.ext (by omega)) (Fin.ext (by omega)))
    (fun x => tileIn x.1 x.2) x x' h
theorem coverT : (Finset.univ : Finset (Fin 4 × Fin 16)).biUnion (fun x => (rT x.1 x.2).set) = Finset.univ :=
  tiles_cover (fun x : Fin 4 × Fin 16 => ![256 * x.1.val + 16 * x.2.val, 0]) (fun x => 16 * x.1.val + x.2.val) rT_off
    (fun k hk => ⟨(⟨k / 16, by omega⟩, ⟨k % 16, by omega⟩), by show 16 * (k / 16) + k % 16 = k; omega⟩)
    (fun x => tileIn x.1 x.2)

/-- The tile a row of the result lies in, and its place in the tile. -/
theorem exists_tile (i : S1024x1024.Idx) : ∃ (g : Fin 4) (t : Fin 16) (j : S16x1024.Idx), (rT g t).emb j = i := by
  obtain ⟨x, -, hx⟩ := Finset.mem_biUnion.mp (coverT ▸ Finset.mem_univ i)
  obtain ⟨j, hj⟩ := (rT x.1 x.2).exists_idx_of_mem hx
  exact ⟨x.1, x.2, j, hj⟩

end Cert.KernelIdeal.Tiled
end
end
-- ==== Proof.Sched.lean ====
/-
# The semaphores' schedule

Every semaphore of the kernel is used once. A barrier cell is paid three units, one by each neighbour,
who hands over the places its copies will land in on that neighbour's side; a copy's send cell returns
what was read, its receive cell delivers the tile with its contents, and a local copy's cell does both.
-/
module

public import proofs.«01_k».proof.Proof.Geo
public import Idealize.ShloMosaic.Lib.Rounds
public import Idealize.ShloMosaic.Lib.Tactic

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A duty is named by a direction: the barrier's three by the neighbour who pays, every other by 0. -/
abbrev DD : Type := Fin 3
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kernel's semaphores: the barrier, each remote copy's two and each local copy's one. -/
inductive CK where
  | bar | snd (k : RC) | rcv (k : RC) | lcl (k : LC)
deriving DecidableEq

/-- The semaphores but the barrier, by kind. -/
abbrev OK : Type := RC ⊕ RC ⊕ LC
def OK.ck : OK → CK
  | .inl k => .snd k
  | .inr (.inl k) => .rcv k
  | .inr (.inr k) => .lcl k

def CK.sum : CK ≃ Unit ⊕ OK where
  toFun
    | .bar => .inl ()
    | .snd k => .inr (.inl k)
    | .rcv k => .inr (.inr (.inl k))
    | .lcl k => .inr (.inr (.inr k))
  invFun
    | .inl _ => .bar
    | .inr k => OK.ck k
  left_inv := by rintro (_ | _ | _ | _) <;> rfl
  right_inv := by rintro (_ | _ | _ | _) <;> rfl
instance : Fintype CK := Fintype.ofEquiv _ CK.sum.symm

/-- Where a semaphore lies. -/
def loc : CK → SemLoc sig
  | .bar => .reg bSem
  | .snd k => .dma (sSem k)
  | .rcv k => .dma (rSem k)
  | .lcl k => .dma (lSem k)

theorem sSem_val (k : RC) : (sSem k).val = 1 + k.ix.val :=
  (by decide : ∀ i : Fin 80, (((cc0_scratch9.slice (Rect.unit (s := S80) ![i.val] S1.size (semIn80 i))).squeeze S_ squeezes_S1_S_).sem : DmaSem sig).val = 1 + i.val) k.ix
theorem rSem_val (k : RC) : (rSem k).val = 81 + k.ix.val :=
  (by decide : ∀ i : Fin 80, (((cc0_scratch10.slice (Rect.unit (s := S80) ![i.val] S1.size (semIn80 i))).squeeze S_ squeezes_S1_S_).sem : DmaSem sig).val = 81 + i.val) k.ix
theorem lSem_val (k : LC) : (lSem k).val = 161 + k.ix.val :=
  (by decide : ∀ i : Fin 36, (((cc0_scratch11.slice (Rect.unit (s := S36) ![i.val] S1.size (semIn36 i))).squeeze S_ squeezes_S1_S_).sem : DmaSem sig).val = 161 + i.val) k.ix

theorem RC.ix_inj : Function.Injective RC.ix := by
  rintro (a | a | a | a | a) (b | b | b | b | b) h <;> have h' := congrArg Fin.val h <;> simp only [RC.ix] at h' <;>
    first | (congr 1; apply Fin.ext; omega) | (exfalso; omega)
theorem LC.ix_inj : Function.Injective LC.ix := by
  rintro (a | a | a | a) (b | b | b | b) h <;> have h' := congrArg Fin.val h <;> simp only [LC.ix] at h' <;>
    first | (congr 1; apply Fin.ext; omega) | (exfalso; omega)

theorem dma_val {a b : DmaSem sig} (h : (SemLoc.dma a : SemLoc sig) = .dma b) : a.val = b.val := by cases h; rfl

theorem loc_inj : Function.Injective loc := by
  rintro (_ | a | a | a) (_ | b | b | b) h
  all_goals first
    | rfl
    | (have h' := dma_val h
       simp only [sSem_val, rSem_val, lSem_val] at h'
       first
         | exact congrArg _ (RC.ix_inj (Fin.ext (by omega)))
         | exact congrArg _ (LC.ix_inj (Fin.ext (by omega)))
         | (exfalso; omega))
    | cases h

/-- The semaphore that lies at a place. -/
def dec (sm : SemLoc sig) : Option CK := if h : ∃ k, loc k = sm then some h.choose else none
theorem dec_loc (k : CK) : dec (loc k) = some k := by
  have h : ∃ k', loc k' = loc k := ⟨k, rfl⟩
  unfold dec
  rw [dif_pos h]
  exact congrArg some (loc_inj h.choose_spec)
theorem loc_of_dec {sm : SemLoc sig} {k : CK} (h : dec sm = some k) : loc k = sm := by
  unfold dec at h
  split at h
  · next h' => cases h; exact h'.choose_spec
  · cases h

abbrev cell (c : Dev nD) (k : CK) : GSem nD τ sig := ((c : Thread nD τ), loc k)

theorem cell_inj {c c' : Dev nD} {k k' : CK} (h : cell c k = cell c' k') : c = c' ∧ k = k' :=
  ⟨congrArg (fun g : GSem nD τ sig => g.1.1) h, loc_inj (congrArg Prod.snd h)⟩

/-! ## What the copies carry -/

/-- What the region reads: every core's summand, its residual and its scales. -/
structure In (F : FTy → Type) [FloatOps F] where
  p : Dev nD → Vec F S1024x1024 .f32
  r : Dev nD → Vec F S1024x1024 .f32
  g : Dev nD → Vec F S1x1024 .f32

/-- Tile `t` of group `q` of the result, as core `c` computes it. -/
def In.val (x : In F) (c : Dev nD) (q : Fin 4) (t : Fin 16) : Vec F S16x1024 .f32 :=
  k0_pay1 (rows (x.p c) q t) (rows (x.p (pr c 1)) q t) (rows (x.r c) q t) (x.g c)

/-- The neighbour core `c` receives tile `t` of the result from, for its own memory. -/
abbrev gotFrom (c : Dev nD) (t : Fin 10) : Dev nD := pr c (RC.s (lo t)).dir

/-- What core `c`'s copy carries. -/
def In.cont (x : In F) (c : Dev nD) : RC → Vec F S16x1024 .f32
  | .y t => rows (x.p c) (grp c) t
  | .d i => rows (x.p c) (dgrp c) (hi i)
  | .s t => x.val c (grp c) t
  | .b t => x.val c (grp c) t
  | .w t => x.val (gotFrom c t) (grp (gotFrom c t)) (lo t)

/-- Core `n` holds, at contents `X`, the tile that core `c`'s copy is to land in. -/
def dstOwn (n c : Dev nD) (k : RC) (X : Vec F S16x1024 .f32) : sProp 𝕄 := match k with
  | .y t => ownsTc n (t256 bY t) fullShare X
  | .d i => ownsTc n (t96 bYd i) fullShare X
  | .s t => if h : t.val < 10 then ownsTc n (t160 bI ⟨t.val, h⟩) fullShare X else ownsTc n (oOwn c t) fullShare X
  | .b t => ownsTc n (oOwn c t) fullShare X
  | .w t => ownsTc n (oGot c t) fullShare X

/-- Core `c` holds, at contents `X`, the share of the tile that its copy reads. -/
def srcOwn (c : Dev nD) (k : RC) (X : Vec F S16x1024 .f32) : sProp 𝕄 := match k with
  | .y t => ownsTc c (t256 bP t) fullShare X
  | .d i => ownsTc c (t96 bPd i) fullShare X
  | .s t => ownsTc c (t256 bV t) fullShare.right.left X
  | .b t => ownsTc c (t256 bV t) fullShare.right.right X
  | .w t => ownsTc c (t160 bI t) fullShare.right X

instance dstOwn_storable (n c : Dev nD) (k : RC) (X : Vec F S16x1024 .f32) : BI.Storable (upEmb : UEmb _ 𝕄) (dstOwn n c k X) := by
  cases k <;> dsimp only [dstOwn] <;> first | infer_instance | (split <;> infer_instance)
instance srcOwn_storable (c : Dev nD) (k : RC) (X : Vec F S16x1024 .f32) : BI.Storable (upEmb : UEmb _ 𝕄) (srcOwn c k X) := by
  cases k <;> unfold srcOwn <;> infer_instance

/-- What a local copy's cell delivers: the destination with its contents, and the share read. -/
def In.lclPay (x : In F) (c : Dev nD) : LC → sProp 𝕄
  | .cp 0 => iprop(ownsTc c bP fullShare (ownRows (x.p c) c) ∗ ownsTc c (own256 aP c) fullShare.left (ownRows (x.p c) c))
  | .cp 1 => iprop(ownsTc c bR fullShare (ownRows (x.r c) c) ∗ ownsTc c (own256 aR c) fullShare.left (ownRows (x.r c) c))
  | .cp 2 => iprop(ownsTc c bPd fullShare (diagRows (x.p c) c) ∗ ownsTc c (diag96 aP c) fullShare.right (diagRows (x.p c) c))
  | .cp 3 => iprop(ownsTc c bRd fullShare (diagRows (x.r c) c) ∗ ownsTc c (diag96 aR c) fullShare.right (diagRows (x.r c) c))
  | .st t => iprop(ownsTc c (oOwn c t) fullShare (x.val c (grp c) t) ∗ ownsTc c (t256 bV t) fullShare.left (x.val c (grp c) t))
  | .sd i => iprop(ownsTc c (oDiag c i) fullShare (x.val c (dgrp c) (hi i)) ∗ ownsTc c (t96 bVd i) fullShare (x.val c (dgrp c) (hi i)))
  | .sv t => iprop(ownsTc c (oGot c t) fullShare (x.cont c (.w t)) ∗ ownsTc c (t160 bI t) fullShare.left (x.cont c (.w t)))

instance lclPay_storable (x : In F) (c : Dev nD) (k : LC) : BI.Storable (upEmb : UEmb _ 𝕄) (x.lclPay c k) := by
  rcases k with k | t | i | t
  · fin_cases k <;> (unfold In.lclPay; infer_instance)
  all_goals (unfold In.lclPay; infer_instance)

/-! ## The amounts -/

/-- The units a tile's copy is worth, and those of the four staged buffers. -/
abbrev N : ℕ := (t256 bY 0).view.dmaCredit
def amtL : LC → ℕ
  | .cp 0 => bP.view.dmaCredit
  | .cp 1 => bR.view.dmaCredit
  | .cp 2 => bPd.view.dmaCredit
  | .cp 3 => bRd.view.dmaCredit
  | _ => N
def amt : CK → ℕ
  | .bar => 1
  | .snd _ => N
  | .rcv _ => N
  | .lcl k => amtL k
theorem N_pos : 0 < N := View.dmaCredit_pos _ (by decide)
theorem amt_pos (k : CK) : 0 < amt k := by
  rcases k with _ | k | k | (k | t | i | t)
  · exact Nat.one_pos
  · exact N_pos
  · exact N_pos
  · fin_cases k <;> exact View.dmaCredit_pos _ (by decide)
  all_goals exact N_pos

/-! ## The schedule -/

/-- Paid to core `c`'s barrier cell by its neighbour along `j`: the places `c`'s copies along `j` are to land
in, and that their receive cells are open. -/
def barPay (c : Dev nD) (j : Fin 3) : sProp 𝕄 :=
  bigSep (Finset.univ.filter fun k : RC => k.dir = j) fun k =>
    iprop((∃ X, dstOwn (F := F) (pr c j) c k X) ∗ reached ER (cell (pr c j) (.rcv k)) 0)

def In.pay (x : In F) (c : Dev nD) (j : Fin 3) : CK → sProp 𝕄
  | .bar => barPay c j
  | .snd k => srcOwn c k (x.cont c k)
  | .rcv k => dstOwn c (pr c k.dir) k (x.cont (pr c k.dir) k)
  | .lcl k => x.lclPay c k

instance pay_storable (x : In F) (c : Dev nD) (j : Fin 3) (k : CK) : BI.Storable (upEmb : UEmb _ 𝕄) (x.pay c j k) := by
  cases k <;> unfold In.pay <;> (try unfold barPay) <;> infer_instance

def dts : CK → Finset DD
  | .bar => Finset.univ
  | _ => {0}

/-- One round on every cell of every core. -/
def In.Rd (x : In F) : Rounds.Schedule (GSem nD τ sig) DD 𝕄 where
  duties g r := if r = 0 ∧ g.1.2 = .tc then (dec g.2).elim ∅ dts else ∅
  amount g _ _ := (dec g.2).elim 1 amt
  payload g _ j := (dec g.2).elim iprop(emp) (x.pay g.1.1 j)
  amount_pos g _ _ _ := by
    cases dec g.2 with
    | none => exact Nat.one_pos
    | some k => exact amt_pos k
  unitless _ := False

instance Rd_storable (x : In F) (g : GSem nD τ sig) (r : ℕ) (j : DD) : BI.Storable (upEmb : UEmb _ 𝕄) (x.Rd.payload g r j) := by
  show BI.Storable upEmb ((dec g.2).elim iprop(emp) (x.pay g.1.1 j))
  cases dec g.2 with
  | none => show BI.Storable upEmb (iprop(emp) : sProp 𝕄); infer_instance
  | some k => exact pay_storable x g.1.1 j k

section Facts

variable (x : In F) (c : Dev nD) (k : CK)

theorem duties_eq : x.Rd.duties (cell c k) 0 = dts k := by
  show (if (0 : ℕ) = 0 ∧ (c : Thread nD τ).2 = .tc then (dec (loc k)).elim ∅ dts else ∅) = _
  rw [if_pos ⟨rfl, rfl⟩, dec_loc]; rfl
theorem amount_eq (j : DD) : x.Rd.amount (cell c k) 0 j = amt k := by
  show (dec (loc k)).elim 1 amt = _
  rw [dec_loc]; rfl
theorem payload_eq (j : DD) : x.Rd.payload (cell c k) 0 j = x.pay c j k := by
  show (dec (loc k)).elim iprop(emp) (x.pay c j) = _
  rw [dec_loc]; rfl
theorem duties_later (g : GSem nD τ sig) (r : ℕ) (hr : 1 ≤ r) : x.Rd.duties g r = ∅ := by
  show (if r = 0 ∧ g.1.2 = .tc then (dec g.2).elim ∅ dts else ∅) = _
  rw [if_neg (by omega)]

/-- The units of a cell that one duty pays. -/
theorem expect_eq (hk : k ≠ .bar) : x.Rd.expect (cell c k) 0 = amt k := by
  unfold Schedule.expect Schedule.amountOf
  rw [duties_eq, show dts k = {0} from by cases k <;> first | rfl | exact absurd rfl hk, Finset.sum_singleton, amount_eq]
theorem expect_bar : x.Rd.expect (cell c .bar) 0 = 3 := by
  unfold Schedule.expect Schedule.amountOf
  rw [duties_eq, Finset.sum_congr rfl fun j _ => amount_eq x c .bar j]
  rfl
theorem rest_eq (hk : k ≠ .bar) :
    bigSep (x.Rd.duties (cell c k) 0 \ ∅) (fun j => x.Rd.payload (cell c k) 0 j) = x.pay c 0 k := by
  rw [Finset.sdiff_empty, duties_eq, show dts k = {0} from by cases k <;> first | rfl | exact absurd rfl hk, bigSep_singleton, payload_eq]
theorem rest_bar :
    bigSep (x.Rd.duties (cell c .bar) 0 \ ∅) (fun j => x.Rd.payload (cell c .bar) 0 j) = bigSep Finset.univ fun j => barPay (F := F) c j := by
  rw [Finset.sdiff_empty, duties_eq]
  exact bigSep_congr fun j _ => payload_eq x c .bar j

end Facts

/-! ## What a core owes, and the levels -/

/-- The order in which a core sends its copies. -/
def RC.ord : RC → ℕ
  | .y t => t.val
  | .d i => 16 + i.val
  | .s t => 22 + 2 * t.val
  | .b t => 23 + 2 * t.val
  | .w t => 54 + t.val
theorem RC.ord_inj : Function.Injective RC.ord := by
  rintro (a | a | a | a | a) (b | b | b | b | b) h <;> simp only [RC.ord] at h <;>
    first | (congr 1; apply Fin.ext; omega) | (exfalso; omega)
theorem RC.ord_lt (k : RC) : k.ord < 64 := by cases k <;> simp only [RC.ord] <;> omega

/-- What core `c` owes when the copies from the `n`-th on are still to be sent. -/
def owe (c : Dev nD) (n : ℕ) : CellTallies nD τ sig Unit :=
  ∑ k ∈ Finset.univ.filter (fun k : RC => n ≤ k.ord), tallyAt (cell (pr c k.dir) (.rcv k)) () N
/-- Sending a copy pays what it owes. -/
theorem owe_send (c : Dev nD) (k : RC) : owe c k.ord = owe c (k.ord + 1) + tallyAt (cell (pr c k.dir) (.rcv k)) () N := by
  unfold owe
  have : (Finset.univ.filter fun k' : RC => k.ord ≤ k'.ord) = insert k (Finset.univ.filter fun k' : RC => k.ord + 1 ≤ k'.ord) := by
    ext k'
    simp only [Finset.mem_filter, Finset.mem_univ, true_and, Finset.mem_insert]
    constructor
    · intro h
      by_cases e : k' = k
      · exact .inl e
      · exact .inr (by have : k'.ord ≠ k.ord := fun e' => e (RC.ord_inj e'); omega)
    · rintro (rfl | h)
      · exact le_rfl
      · omega
  rw [this, Finset.sum_insert (by simp), add_comm]
theorem owe_done (c : Dev nD) : owe c 64 = 0 := by
  unfold owe
  rw [Finset.filter_false_of_mem fun k _ => by have := k.ord_lt; omega, Finset.sum_empty]

/-- At launch also a unit to each neighbour's barrier cell. -/
def oweBar (c : Dev nD) (j : Fin 3) : CellTallies nD τ sig Unit := tallyAt (cell (pr c j) .bar) () 1
def O₀ (c : Dev nD) : CellTallies nD τ sig Unit := owe c 0 + oweBar c 2 + oweBar c 1 + oweBar c 0

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier below the copies of the summands, those below the copies of the result, those below the passing on. -/
def lvK : CK → ℕ
  | .bar => 1
  | .snd _ => 0
  | .rcv (.y _) => 2
  | .rcv (.d _) => 2
  | .rcv (.s _) => 3
  | .rcv (.b _) => 3
  | .rcv (.w _) => 4
  | .lcl _ => 0
def lv (g : GSem nD τ sig) (_ : Unit) : ℕ := (dec g.2).elim 0 lvK
theorem lv_eq (c : Dev nD) (k : CK) (u : Unit) : lv (cell c k) u = lvK k := by
  show (dec (loc k)).elim 0 lvK = _
  rw [dec_loc]; rfl

theorem tally_apply (g g' : GSem nD τ sig) (n : ℕ) (u : Unit) (h : 0 < (tallyAt g () n : CellTallies nD τ sig Unit) g' u) : g' = g := by
  rw [tallyAt_apply] at h
  by_contra hne
  rw [if_neg fun h' => hne h'.1] at h
  exact absurd h (Nat.lt_irrefl 0)

theorem owe_pos (c : Dev nD) (n : ℕ) (g : GSem nD τ sig) (u : Unit) (h : 0 < owe c n g u) :
    ∃ k : RC, n ≤ k.ord ∧ g = cell (pr c k.dir) (.rcv k) := by
  unfold owe at h
  rw [Finset.sum_apply, Finsupp.finset_sum_apply] at h
  obtain ⟨k, hk, hp⟩ := Finset.exists_ne_zero_of_sum_ne_zero (Nat.pos_iff_ne_zero.mp h)
  exact ⟨k, (Finset.mem_filter.mp hk).2, tally_apply _ _ _ _ (Nat.pos_of_ne_zero hp)⟩

theorem O₀_pos (c : Dev nD) (g : GSem nD τ sig) (u : Unit) (h : 0 < O₀ c g u) :
    (∃ k : RC, g = cell (pr c k.dir) (.rcv k)) ∨ ∃ j, g = cell (pr c j) .bar := by
  unfold O₀ oweBar at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨k, -, hk⟩ := owe_pos c 0 g u h
        exact .inl ⟨k, hk⟩
      · exact .inr ⟨_, tally_apply _ _ _ _ h⟩
    · exact .inr ⟨_, tally_apply _ _ _ _ h⟩
  · exact .inr ⟨_, tally_apply _ _ _ _ h⟩

/-- A core may wait on a cell below everything it still owes. -/
theorem mayWait (c : Dev nD) (k : CK) (n : ℕ) (h : ∀ k' : RC, n ≤ k'.ord → lvK k < lvK (.rcv k')) :
    (levAts L lv : sProp 𝕄) ⊢ MayWait (c : Thread nD τ) (loc k) () (owe c n) :=
  MayOwe.of_cut (L := L) (lev := lv) (lvK k) (fun p hp => by rw [Finset.mem_singleton.mp hp, L_tc]; exact Finset.mem_singleton_self _)
    (fun g u hg => by
      obtain ⟨k', -, rfl⟩ := owe_pos c n g u hg
      rw [L_tc]; exact Finset.mem_singleton_self _)
    (fun p hp => by rw [Finset.mem_singleton.mp hp]; exact (lv_eq c k ()).le)
    (fun g u hg => by
      obtain ⟨k', hk', rfl⟩ := owe_pos c n g u hg
      rw [lv_eq]; exact h k' hk')

end Cert.KernelIdeal.Tiled
end
end
-- ==== Proof.Triple.lean ====
/-
# What each kind of step does

A triple says of a piece of the body: from these resources it runs to those. Each kind of memory
operation gets one, for every tile; a loop's follows from its body's.
-/
module

public import proofs.«01_k».proof.Proof.Sched

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The body's piece `p`, run by core `c`, ends in `Q`. -/
abbrev wpc (c : Dev nD) {α : Type} (p : P F α) (Q : α → sProp 𝕄) : sProp 𝕄 :=
  wp frame (wpE (defs₀ (F := F)) 𝒱₀ (c : Thread nD τ) none) Set.univ p Q

/-- What every core may consult: the invariant of every cell, and the levels. -/
def In.ctx (x : In F) (κ : GSem nD τ sig → ℕ) : sProp 𝕄 :=
  iprop((bigSep Finset.univ fun y : Dev nD × CK => cellInv ER x.Rd (κ (cell y.1 y.2)) (cell y.1 y.2)) ∗ levAts L lv)
instance ctx_persistent (x : In F) (κ : GSem nD τ sig → ℕ) : BI.Persistent (x.ctx κ) := by unfold In.ctx; infer_instance

theorem ctx_inv (x : In F) (κ : GSem nD τ sig → ℕ) (c : Dev nD) (k : CK) :
    x.ctx κ ⊢ (cellInv ER x.Rd (κ (cell c k)) (cell c k) : sProp 𝕄) := by
  unfold In.ctx
  exact sep_elim_left.trans (bigSep_elim (Finset.mem_univ (c, k)))
theorem ctx_lev (x : In F) (κ : GSem nD τ sig → ℕ) : x.ctx κ ⊢ (levAts L lv : sProp 𝕄) := by
  unfold In.ctx
  exact sep_elim_right

/-- From `A`, core `c` runs `p` to `B`. -/
def In.tri (x : In F) (κ : GSem nD τ sig → ℕ) (c : Dev nD) (A : sProp 𝕄) (p : P F PUnit) (B : sProp 𝕄) : Prop :=
  ∀ Q : sProp 𝕄, iprop(x.ctx κ ∗ A ∗ (B -∗ Q)) ⊢ wpc c p (fun _ => Q)

section Rules

variable (x : In F) (κ : GSem nD τ sig → ℕ) (c : Dev nD) {A B C R : sProp (MT nD τ sig Unit (Elt F) ℕ UU ℕ)} {p q : P F PUnit}

theorem tri_seq (hp : x.tri κ c A p B) (hq : x.tri κ c B q C) : x.tri κ c A (p >>= fun _ => q) C := fun Q => by
  unfold wpc
  rw [wp_bind]
  iintro ⟨#Hx, HA, Hk⟩
  iapply (hp _)
  isplitr; · iexact Hx
  isplitl [HA]; · iexact HA
  iintro HB
  iapply (hq Q)
  isplitr; · iexact Hx
  isplitl [HB] <;> iassumption

theorem tri_frame (hp : x.tri κ c A p B) : x.tri κ c iprop(A ∗ R) p iprop(B ∗ R) := fun Q => by
  iintro ⟨#Hx, ⟨HA, HR⟩, Hk⟩
  iapply (hp Q)
  isplitr; · iexact Hx
  isplitl [HA]; · iexact HA
  iintro HB
  iapply Hk
  isplitl [HB] <;> iassumption

theorem tri_conseq {A' B' : sProp 𝕄} (hA : A' ⊢ A) (hB : B ⊢ B') (hp : x.tri κ c A p B) : x.tri κ c A' p B' := fun Q => by
  iintro ⟨#Hx, HA, Hk⟩
  iapply (hp Q)
  isplitr; · iexact Hx
  isplitl [HA]; · iapply hA; iexact HA
  iintro HB
  iapply Hk
  iapply hB; iexact HB

theorem tri_pre {A' : sProp 𝕄} (hA : A' ⊢ A) (hp : x.tri κ c A p B) : x.tri κ c A' p B := tri_conseq x κ c hA .rfl hp

theorem tri_ret (h : A ⊢ B) : x.tri κ c A (pure PUnit.unit) B := fun Q => by
  show _ ⊢ wp _ _ _ (.ret PUnit.unit) _
  rw [wp_ret]
  iintro ⟨-, HA, Hk⟩
  imodintro
  iapply Hk
  iapply h; iexact HA

theorem tri_loopFrom {n : ℕ} (f : Fin n → P F PUnit) (A B : Fin n → sProp 𝕄) (J : ℕ → sProp 𝕄)
    (h : ∀ t : Fin n, x.tri κ c iprop(A t ∗ J t.val) (f t) iprop(B t ∗ J (t.val + 1))) :
    ∀ (k : ℕ) (hk : k ≤ n), x.tri κ c iprop(bigSep (Finset.univ.filter fun t : Fin n => n - k ≤ t.val) A ∗ J (n - k)) (loopFrom n f k hk)
      iprop(bigSep (Finset.univ.filter fun t : Fin n => n - k ≤ t.val) B ∗ J n)
  | 0, hk => by
    refine tri_ret x κ c ?_
    have e : (Finset.univ.filter fun t : Fin n => n - 0 ≤ t.val) = ∅ := Finset.filter_false_of_mem fun t _ => by omega
    rw [e, bigSep_empty, bigSep_empty, Nat.sub_zero]
  | k + 1, hk => by
    have e : (Finset.univ.filter fun t : Fin n => n - (k + 1) ≤ t.val)
        = insert (⟨n - (k + 1), by omega⟩ : Fin n) (Finset.univ.filter fun t : Fin n => n - k ≤ t.val) := by
      ext t
      simp only [Finset.mem_filter, Finset.mem_univ, true_and, Finset.mem_insert, Fin.ext_iff]
      omega
    have hn : (⟨n - (k + 1), by omega⟩ : Fin n) ∉ (Finset.univ.filter fun t : Fin n => n - k ≤ t.val) := by
      simp only [Finset.mem_filter, Finset.mem_univ, true_and]; omega
    have ih := tri_loopFrom f A B J h k (by omega)
    have hs := h ⟨n - (k + 1), by omega⟩
    rw [show (⟨n - (k + 1), by omega⟩ : Fin n).val + 1 = n - k from by show n - (k + 1) + 1 = n - k; omega] at hs
    have eA (Φ : Fin n → sProp 𝕄) : bigSep (Finset.univ.filter fun t : Fin n => n - (k + 1) ≤ t.val) Φ
        = iprop(Φ ⟨n - (k + 1), by omega⟩ ∗ bigSep (Finset.univ.filter fun t : Fin n => n - k ≤ t.val) Φ) := by
      rw [e]; exact bigSep_insert hn
    rw [eA A, eA B]
    refine tri_seq x κ c (tri_pre x κ c ?_ (tri_frame x κ c (R := bigSep (Finset.univ.filter fun t : Fin n => n - k ≤ t.val) A) hs))
      (tri_conseq x κ c ?_ ?_ (tri_frame x κ c (R := B ⟨n - (k + 1), by omega⟩) ih))
    · iintro ⟨⟨HA, HR⟩, HJ⟩
      isplitr [HR]
      · isplitl [HA] <;> iassumption
      · iexact HR
    · iintro ⟨⟨HB, HJ⟩, HR⟩
      isplitr [HB]
      · isplitl [HR] <;> iassumption
      · iexact HB
    · iintro ⟨⟨HR, HJ⟩, HB⟩
      isplitr [HJ]
      · isplitl [HB] <;> iassumption
      · iexact HJ

/-- A loop runs from every tile's resources to every tile's, if each tile's step does so beside what is passed along. -/
theorem tri_loop {n : ℕ} (f : Fin n → P F PUnit) (A B : Fin n → sProp 𝕄) (J : ℕ → sProp 𝕄)
    (h : ∀ t : Fin n, x.tri κ c iprop(A t ∗ J t.val) (f t) iprop(B t ∗ J (t.val + 1))) :
    x.tri κ c iprop(bigSep Finset.univ A ∗ J 0) (loop n f) iprop(bigSep Finset.univ B ∗ J n) := by
  have := tri_loopFrom x κ c f A B J h n le_rfl
  rwa [Nat.sub_self, Finset.filter_true_of_mem fun _ _ => Nat.zero_le _] at this

end Rules

/-! ## The steps' resources -/

/-- Core `c` still owes the copies from the `n`-th on. -/
def J (c : Dev nD) (n : ℕ) : sProp 𝕄 := iprop(∃ W, owes (c : Thread nD τ) (owe c n) W)

/-- What paying a cell of its own takes of core `c`: the duty's token, and that the cell is open. With it the right to wait there. -/
def tok (c : Dev nD) (k : CK) : sProp 𝕄 := iprop(dutyTok ER (cell c k) 0 0 ∗ reached ER (cell c k) 0 ∗ atPos ER (cell c k) 0 ∅ 0)

/-- The right to wait on a cell, and the credit to do so. -/
def wt (c : Dev nD) (k : CK) : sProp 𝕄 := iprop(cred (tallyAt (cell c k) () (amt k)) ∗ atPos ER (cell c k) 0 ∅ 0)

/-- What sending a copy takes beside its source: its send cell's right, the token of the receive cell, and the place. -/
def kit (c : Dev nD) (k : RC) : sProp 𝕄 :=
  iprop(tok c (.snd k) ∗ dutyTok ER (cell (pr c k.dir) (.rcv k)) 0 0
    ∗ (∃ X, dstOwn (F := F) (pr c k.dir) c k X) ∗ reached ER (cell (pr c k.dir) (.rcv k)) 0)

section Steps

variable (x : In F) (κ : GSem nD τ sig → ℕ) (c : Dev nD)

theorem read_write {κ' : Kind} {sp : Space} {s : Shape} {e : EltTy} (v : View sig κ' sp s e) (f : v.ty.Contents (Elt F)) (w : s.Idx → Elt F e) :
    v.read (Elt F) (v.write (Elt F) f w Finset.univ) = w := View.read_write_univ ..

/-- SEND a tile: what was owed for it is paid, and the send cell may be waited on. -/
theorem tri_send (k : RC) {sp sp' : Space} (src : Memref sig .tc sp S16x1024 .f32) (dst : Memref sig .tc sp' S16x1024 .f32) (q : PosShare TreeShare)
    (hsrc : ∀ X, srcOwn (F := F) c k X = ownsTc c src q X) (hdst : ∀ X, dstOwn (F := F) (pr c k.dir) c k X = ownsTc (pr c k.dir) dst fullShare X)
    (hN : dst.view.dmaCredit = N) (h₁ : src.view.WordExact) (h₂ : dst.view.WordExact) {hsc : dst.view.ref.isScScratch = false}
    (h₃ : DmaTarget.Typed (nD := nD) sp (.dma (rSem k)) (.remote (Dev.tc (pr c k.dir)) dst (.dma (sSem k)) hsc)) :
    x.tri κ c iprop(kit c k ∗ srcOwn c k (x.cont c k) ∗ J c k.ord)
      (Prog.lift (.enqueueDma src (.remote (Dev.tc (pr c k.dir)) dst (.dma (sSem k)) hsc) (.dma (rSem k)) h₁ h₂ h₃))
      iprop(wt c (.snd k) ∗ J c (k.ord + 1)) := fun Q => by
  unfold wpc Prog.lift kit tok wt J
  rw [hsrc, owe_send]
  iintro ⟨#Hx, ⟨⟨⟨Ht, #Hr, Ha⟩, HtN, ⟨%Y, Hd⟩, #HrN⟩, Hs, ⟨%W, HO⟩⟩, Hk⟩
  ihave Hd' := (Entails.of_eq (hdst Y)) $$ Hd
  unfold ownsTc owns
  icases Hd' with ⟨%fd, %hfd, Hd⟩
  icases Hs with ⟨%fs, %hfs, Hs⟩
  iapply (Rounds.wp_send_pointsTo 𝒱₀ ER x.Rd (c : Thread nD τ) none (c' := (pr c k.dir : Thread nD τ)) (src := src) (dst := dst)
      (sS := .dma (sSem k)) (sem := .dma (rSem k)) (q := q) (fs := fs) (κ₁ := κ (cell c (.snd k))) (κ₂ := κ (cell (pr c k.dir) (.rcv k)))
      (r₁ := 0) (r₂ := 0) (d₁ := 0) (d₂ := 0) (fd := fd)
      (by rw [show ((c : Thread nD τ), SemLoc.dma (sSem k)) = cell c (.snd k) from rfl, duties_eq]; exact Finset.mem_singleton_self _)
      (by rw [show ((pr c k.dir : Thread nD τ), SemLoc.dma (rSem k)) = cell (pr c k.dir) (.rcv k) from rfl, duties_eq]; exact Finset.mem_singleton_self _)
      () () N hN (amount_eq x c (.snd k) 0) (amount_eq x (pr c k.dir) (.rcv k) 0) (owe c (k.ord + 1)) rfl (W := W)
      (by
        rw [show ((c : Thread nD τ), SemLoc.dma (sSem k)) = cell c (.snd k) from rfl, payload_eq]
        show _ ⊢ srcOwn c k (x.cont c k)
        rw [hsrc]
        unfold ownsTc owns
        iintro H; iexists fs; isplitr; · ipureintro; exact hfs
        iexact H)
      (by
        rw [show ((pr c k.dir : Thread nD τ), SemLoc.dma (rSem k)) = cell (pr c k.dir) (.rcv k) from rfl, payload_eq]
        show _ ⊢ dstOwn (pr c k.dir) (pr (pr c k.dir) k.dir) k (x.cont (pr (pr c k.dir) k.dir) k)
        rw [pr_pr, hdst]
        unfold ownsTc owns
        iintro H; iexists _; isplitr
        rotate_left
        · iexact H
        · ipureintro; rw [read_write]; exact hfs)) $$ [Hs Hd HO Ht HtN]
  · isplitr; · iapply (ctx_inv x κ c (.snd k)); iexact Hx
    isplitr; · iapply (ctx_inv x κ (pr c k.dir) (.rcv k)); iexact Hx
    isplitl [Hs]; · iexact Hs
    isplitl [Hd]; · iexact Hd
    isplitl [HO]; · iexact HO
    isplitl [Ht]; · iexact Ht
    isplitr; · iexact Hr
    isplitl [HtN]; · iexact HtN
    iexact HrN
  iintro ⟨HcS, HO⟩
  rw [wp_ret]
  imodintro
  iapply Hk
  isplitr [HO]
  · isplitl [HcS]; · iexact HcS
    iexact Ha
  · iexists W; iexact HO

/-- START a local copy: its cell may be waited on. -/
theorem tri_copy (k : LC) {sp sp' : Space} {s : Shape} (src : Memref sig .tc sp s .f32) (dst : Memref sig .tc sp' s .f32) (q : PosShare TreeShare)
    (X : s.Idx → Elt F .f32) (hpay : iprop(ownsTc c dst fullShare X ∗ ownsTc c src q X) ⊢ x.lclPay c k)
    (hN : dst.view.dmaCredit = amtL k) (h₁ : src.view.WordExact) (h₂ : dst.view.WordExact)
    (h₃ : DmaTarget.Typed (nD := nD) (τ := τ) (p := .tc) sp (.dma (lSem k)) (.here dst)) :
    x.tri κ c iprop(tok c (.lcl k) ∗ ownsTc c src q X ∗ ∃ Y, ownsTc c dst fullShare Y)
      (Prog.lift (.enqueueDma src (.here dst) (.dma (lSem k)) h₁ h₂ h₃)) (wt c (.lcl k)) := fun Q => by
  unfold wpc Prog.lift tok wt
  iintro ⟨#Hx, ⟨⟨Ht, #Hr, Ha⟩, Hs, ⟨%Y, Hd⟩⟩, Hk⟩
  unfold ownsTc owns
  icases Hd with ⟨%fd, %hfd, Hd⟩
  icases Hs with ⟨%fs, %hfs, Hs⟩
  iapply (Rounds.wp_copy_pointsTo 𝒱₀ ER x.Rd (c : Thread nD τ) none (src := src) (dst := dst) (sem := .dma (lSem k)) (q := q)
      (fs := fs) (fd := fd) (r := 0) (d := 0) (κ := κ (cell c (.lcl k)))
      (by rw [show ((c : Thread nD τ), SemLoc.dma (lSem k)) = cell c (.lcl k) from rfl, duties_eq]; exact Finset.mem_singleton_self _)
      () (amtL k) hN (amount_eq x c (.lcl k) 0)
      (by
        rw [show ((c : Thread nD τ), SemLoc.dma (lSem k)) = cell c (.lcl k) from rfl, payload_eq]
        refine (BI.sep_mono ?_ ?_).trans hpay
        · show _ ⊢ ownsTc c dst fullShare X
          unfold ownsTc owns
          iintro H; iexists _; isplitr
          rotate_left
          · iexact H
          · ipureintro; rw [read_write]; exact hfs
        · show _ ⊢ ownsTc c src q X
          unfold ownsTc owns
          iintro H; iexists fs; isplitr; · ipureintro; exact hfs
          iexact H)) $$ [Hs Hd Ht]
  · isplitr; · iapply (ctx_inv x κ c (.lcl k)); iexact Hx
    isplitl [Hs]; · iexact Hs
    isplitl [Hd]; · iexact Hd
    isplitl [Ht]; · iexact Ht
    iexact Hr
  iintro Hc
  rw [wp_ret]
  imodintro
  iapply Hk
  isplitl [Hc]; · iexact Hc
  iexact Ha

/-- WAIT for a copy's cell: what it delivers, and the counter back at zero. -/
theorem tri_wait (k : CK) (hk : k ≠ .bar) (sem : DmaSem sig) (hsem : loc k = .dma sem) {sp sp' : Space} {s : Shape}
    (src : Memref sig .tc sp s .f32) (dst : Memref sig .tc sp' s .f32) (hN : dst.view.dmaCredit = amt k) (n : ℕ)
    (hl : ∀ k' : RC, n ≤ k'.ord → lvK k < lvK (.rcv k')) :
    x.tri κ c iprop(wt c k ∗ J c n) (waitD sem src dst) iprop((semVal (cell c k) 0 ∗ x.pay c 0 k) ∗ J c n) := fun Q => by
  have hg : ((c : Thread nD τ), SemLoc.dma sem) = cell c k := Prod.ext rfl hsem.symm
  unfold wpc waitD Prog.lift wt J
  iintro ⟨#Hx, ⟨⟨Hc, Ha⟩, ⟨%W, HO⟩⟩, Hk⟩
  iapply (Rounds.wp_wait_rest_token 𝒱₀ ER x.Rd (c : Thread nD τ) none (κ := κ (cell c k)) (sm := .dma sem) (k' := dst.view.dmaCredit)
      (wpE_waitDma2_eq 𝒱₀ (c : Thread nD τ) none Set.univ) (Set.mem_univ _) () (O := owe c n) (W := W) (R := 0) (m := 0) (T := ∅)
      ((Nat.zero_add _).trans (by rw [hg, expect_eq x c k hk]; exact hN))) $$ [Hc HO Ha]
  · rw [hg, hN]
    isplitr; · iapply (ctx_inv x κ c k); iexact Hx
    isplitl [Hc]; · iexact Hc
    isplitl [HO]; · iexact HO
    isplitr
    · rw [← hsem]; iapply (mayWait c k n hl); iapply (ctx_lev x κ); iexact Hx
    iexact Ha
  rw [hg]
  iintro ⟨HO, Ha, -, Hpay⟩
  ihave Hp := (Entails.of_eq (rest_eq x c k hk)) $$ Hpay
  rw [wp_ret]
  imod (Rounds.cell_close ER x.Rd (g := cell c k) (κ := κ (cell c k)) (Set.mem_univ _) (fun h => h) (R := 0 + 1) (duties_later x (cell c k))) $$ [Ha] with Hv
  · isplitr; · iapply (ctx_inv x κ c k); iexact Hx
    iexact Ha
  imodintro
  iapply Hk
  isplitr [HO]
  · isplitl [Hv] <;> iassumption
  · iexists _; iexact HO

/-- COMPUTE a tile: the four tiles read come back, and the one written holds the result's rows. -/
theorem tri_tile {M : ℕ} (A B R V : Memref sig .tc .vmem ⟨2, ![M, 1024]⟩ .f32) (o : Fin 2 → ℕ)
    (ho : ∀ a, o a + S16x1024.size a ≤ (⟨2, ![M, 1024]⟩ : Shape).size a) (a b r : Vec F S16x1024 .f32) (g : Vec F S1x1024 .f32) :
    x.tri κ c
      iprop(ownsTc c (A.slice (Rect.unit (s := ⟨2, ![M, 1024]⟩) o S16x1024.size ho) (fun _ => rfl)) fullShare a
        ∗ ownsTc c (B.slice (Rect.unit (s := ⟨2, ![M, 1024]⟩) o S16x1024.size ho) (fun _ => rfl)) fullShare b
        ∗ ownsTc c (R.slice (Rect.unit (s := ⟨2, ![M, 1024]⟩) o S16x1024.size ho) (fun _ => rfl)) fullShare r
        ∗ (∃ v, ownsTc c (V.slice (Rect.unit (s := ⟨2, ![M, 1024]⟩) o S16x1024.size ho) (fun _ => rfl)) fullShare v)
        ∗ ownsTc c aG fullShare g)
      (tileStep A B R V o ho)
      iprop(ownsTc c (A.slice (Rect.unit (s := ⟨2, ![M, 1024]⟩) o S16x1024.size ho) (fun _ => rfl)) fullShare a
        ∗ ownsTc c (B.slice (Rect.unit (s := ⟨2, ![M, 1024]⟩) o S16x1024.size ho) (fun _ => rfl)) fullShare b
        ∗ ownsTc c (R.slice (Rect.unit (s := ⟨2, ![M, 1024]⟩) o S16x1024.size ho) (fun _ => rfl)) fullShare r
        ∗ ownsTc c (V.slice (Rect.unit (s := ⟨2, ![M, 1024]⟩) o S16x1024.size ho) (fun _ => rfl)) fullShare (k0_pay1 a b r g)
        ∗ ownsTc c aG fullShare g) := fun Q => by
  unfold wpc tileStep
  simp only [Prog.lift, Prog.bind_op, Prog.bind_ret]
  unfold ownsTc owns
  iintro ⟨-, ⟨⟨%fa, %ha, Ha⟩, ⟨%fb, %hb, Hb⟩, ⟨%fr, %hr, Hr⟩, ⟨%v, %fv, %hv, Hv⟩, ⟨%fg, %hg, Hg⟩⟩, Hk⟩
  iapply (wp_load_rect 𝒱₀ (c : Thread nD τ) none Set.univ (m := A) (r := Rect.unit (s := ⟨2, ![M, 1024]⟩) o S16x1024.size ho) (q := fullShare) (f := fa) subset_rfl) $$ Ha
  iintro Ha
  iapply (wp_load_rect 𝒱₀ (c : Thread nD τ) none Set.univ (m := B) (r := Rect.unit (s := ⟨2, ![M, 1024]⟩) o S16x1024.size ho) (q := fullShare) (f := fb) subset_rfl) $$ Hb
  iintro Hb
  iapply (wp_load_rect 𝒱₀ (c : Thread nD τ) none Set.univ (m := R) (r := Rect.unit (s := ⟨2, ![M, 1024]⟩) o S16x1024.size ho) (q := fullShare) (f := fr) subset_rfl) $$ Hr
  iintro Hr
  iapply (wp_load_rect 𝒱₀ (c : Thread nD τ) none Set.univ (m := aG) (r := Rect.unit (s := S1x1024) ![0, 0] S1x1024.size inb_S1x1024_S1x1024_0_0) (q := fullShare) (f := fg)
    (View.set_slice_subset _ _)) $$ Hg
  iintro Hg
  iapply (wp_load_rect 𝒱₀ (c : Thread nD τ) none Set.univ (m := V) (r := Rect.unit (s := ⟨2, ![M, 1024]⟩) o S16x1024.size ho) (q := fullShare) (f := fv) subset_rfl) $$ Hv
  iintro Hv
  iapply (wp_store 𝒱₀ (c : Thread nD τ) none Set.univ (m := V) (r := Rect.unit (s := ⟨2, ![M, 1024]⟩) o S16x1024.size ho) (f := fv)
    (Mk := Finset.univ) (View.setOn_subset_set _ _)) $$ Hv
  iintro Hv
  rw [wp_ret]
  imodintro
  iapply Hk
  isplitl [Ha]; · iexists fa; isplitr; · ipureintro; exact ha
                  iexact Ha
  isplitl [Hb]; · iexists fb; isplitr; · ipureintro; exact hb
                  iexact Hb
  isplitl [Hr]; · iexists fr; isplitr; · ipureintro; exact hr
                  iexact Hr
  isplitl [Hv]
  · iexists _; isplitr
    rotate_left
    · iexact Hv
    · ipureintro
      refine (read_write _ _ _).trans ?_
      have hgg : ((aG : Memref sig .tc .vmem S1x1024 .f32).access (Rect.unit (s := S1x1024) ![0, 0] S1x1024.size inb_S1x1024_S1x1024_0_0)).read (Elt F) fg = g := by
        funext j
        refine Eq.trans ?_ (congrFun hg j)
        show fg _ = fg _
        refine congrArg fg (funext fun a => Fin.ext ?_)
        show (![0, 0] : Fin 2 → ℕ) a + 1 * (j a).val = (j a).val
        fin_cases a <;> simp
      rw [← ha, ← hb, ← hr, ← hgg]
  · iexists fg; isplitr; · ipureintro; exact hg
    iexact Hg

end Steps

end Cert.KernelIdeal.Tiled
end
end
-- ==== Proof.Steps.lean ====
/-
# The body's steps, tile by tile

From the triples of the single operations, those of the steps: what a tile's step takes and gives,
stated once for every tile.
-/
module

public import proofs.«01_k».proof.Proof.Triple

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : In F) (κ : GSem nD τ sig → ℕ) (c : Dev nD)

/-! ## The barrier -/

/-- What core `c` hands its neighbour along `j` with its signal: where the neighbour's copies are to land. -/
def give (j : Fin 3) : sProp 𝕄 :=
  bigSep (Finset.univ.filter fun k : RC => k.dir = j) fun k =>
    iprop((∃ X, dstOwn (F := F) c (pr c j) k X) ∗ reached ER (cell c (.rcv k)) 0)

/-- What core `c` gives along `j` is what the neighbour's barrier cell hands on for `j`. -/
theorem give_pay (j : Fin 3) : give c j ⊢ x.Rd.payload ((pr c j : Thread nD τ), SemLoc.reg bSem) 0 j := by
  refine Entails.of_eq ?_
  rw [show ((pr c j : Thread nD τ), SemLoc.reg bSem) = cell (pr c j) .bar from rfl, payload_eq]
  show _ = barPay (pr c j) j
  unfold barPay give
  rw [pr_pr]

theorem tri_signal (j : Fin 3) (O : CellTallies nD τ sig Unit) :
    x.tri κ c iprop((dutyTok ER (cell (pr c j) .bar) 0 j ∗ reached ER (cell (pr c j) .bar) 0 ∗ give c j) ∗ ∃ W, owes (c : Thread nD τ) (O + oweBar c j) W)
      (semSignalWord (pr c j) bSem 1#32) iprop(∃ W, owes (c : Thread nD τ) O W) := fun Q => by
  unfold wpc
  simp only [semSignalWord, Prog.lift]
  iintro ⟨#Hx, ⟨⟨Ht, #Hr, Hg⟩, ⟨%W, HO⟩⟩, Hk⟩
  iapply (Rounds.wp_signal 𝒱₀ ER x.Rd (c : Thread nD τ) none (dst := (pr c j : Thread nD τ)) (sem := bSem) (r := 0) (d := j) (κ := κ (cell (pr c j) .bar))
      (by rw [show ((pr c j : Thread nD τ), SemLoc.reg bSem) = cell (pr c j) .bar from rfl, duties_eq]; exact Finset.mem_univ j)
      (amount_eq x (pr c j) .bar j) () O rfl (W := W)) $$ [HO Ht Hg]
  · isplitr; · iapply (ctx_inv x κ (pr c j) .bar); iexact Hx
    isplitl [HO]; · iexact HO
    isplitl [Ht]; · iexact Ht
    isplitl [Hg]
    · iapply (give_pay x c j); iexact Hg
    iexact Hr
  iintro HO
  rw [wp_ret]
  imodintro
  iapply Hk
  iexists W; iexact HO

theorem tri_barWait :
    x.tri κ c iprop((cred (tallyAt (cell c .bar) () 3) ∗ atPos ER (cell c .bar) 0 ∅ 0) ∗ J c 0)
      (semWaitWord bSem 3#32) iprop((semVal (cell c .bar) 0 ∗ bigSep Finset.univ fun j => barPay (F := F) c j) ∗ J c 0) := fun Q => by
  unfold wpc J
  simp only [semWaitWord, Prog.lift]
  iintro ⟨#Hx, ⟨⟨Hc, Ha⟩, ⟨%W, HO⟩⟩, Hk⟩
  iapply (Rounds.wp_wait_rest_token 𝒱₀ ER x.Rd (c : Thread nD τ) none (κ := κ (cell c .bar)) (sm := .reg bSem)
      (wpE_semWait_eq 𝒱₀ (c : Thread nD τ) none Set.univ) (Set.mem_univ _) () (O := owe c 0) (W := W) (R := 0) (m := 0) (T := ∅)
      ((Nat.zero_add _).trans (expect_bar x c).symm)) $$ [Hc HO Ha]
  · isplitr; · iapply (ctx_inv x κ c .bar); iexact Hx
    isplitl [Hc]; · iexact Hc
    isplitl [HO]; · iexact HO
    isplitr
    · iapply (mayWait c .bar 0 (by intro k' _; cases k' <;> simp [lvK])); iapply (ctx_lev x κ); iexact Hx
    iexact Ha
  iintro ⟨HO, Ha, -, Hpay⟩
  ihave Hp := (show bigSep (x.Rd.duties ((c : Thread nD τ), SemLoc.reg bSem) 0 \ ∅) (fun j => x.Rd.payload ((c : Thread nD τ), SemLoc.reg bSem) 0 j)
      ⊢ bigSep Finset.univ fun j => barPay (F := F) c j from Entails.of_eq (rest_bar x c)) $$ Hpay
  rw [wp_ret]
  imod (Rounds.cell_close ER x.Rd (g := cell c .bar) (κ := κ (cell c .bar)) (Set.mem_univ _) (fun h => h) (R := 0 + 1) (duties_later x (cell c .bar))) $$ [Ha] with Hv
  · isplitr; · iapply (ctx_inv x κ c .bar); iexact Hx
    iexact Ha
  imodintro
  iapply Hk
  isplitr [HO]
  · isplitl [Hv] <;> iassumption
  · iexists _; iexact HO

/-! ## Sending the summands -/

theorem tri_y (t : Fin 16) :
    x.tri κ c iprop((kit c (.y t) ∗ srcOwn c (.y t) (x.cont c (.y t))) ∗ J c t.val) (yStep c t) iprop(wt c (.snd (.y t)) ∗ J c (t.val + 1)) := by
  refine tri_pre x κ c ?_ (tri_send x κ c (.y t) (t256 bP t) (t256 bY t) fullShare (fun _ => rfl) (fun _ => rfl) rfl _ _ _)
  iintro ⟨⟨Hk, Hs⟩, HJ⟩
  isplitl [Hk]; · iexact Hk
  isplitl [Hs]; · iexact Hs
  iexact HJ
theorem tri_d (i : Fin 6) :
    x.tri κ c iprop((kit c (.d i) ∗ srcOwn c (.d i) (x.cont c (.d i))) ∗ J c (16 + i.val)) (dStep c i) iprop(wt c (.snd (.d i)) ∗ J c (16 + (i.val + 1))) := by
  refine tri_pre x κ c ?_ (tri_send x κ c (.d i) (t96 bPd i) (t96 bYd i) fullShare (fun _ => rfl) (fun _ => rfl) rfl _ _ _)
  iintro ⟨⟨Hk, Hs⟩, HJ⟩
  isplitl [Hk]; · iexact Hk
  isplitl [Hs]; · iexact Hs
  iexact HJ

/-! ## Computing, storing and sending a tile of the own group -/

theorem tri_sendS (t : Fin 16) :
    x.tri κ c iprop(kit c (.s t) ∗ srcOwn c (.s t) (x.cont c (.s t)) ∗ J c (22 + 2 * t.val))
      (if h : t.val < 10 then sendV c (.s t) (t256 bV t) (t160 bI ⟨t.val, h⟩) else sendO c (.s t) (t256 bV t) (oOwn c t))
      iprop(wt c (.snd (.s t)) ∗ J c (23 + 2 * t.val)) := by
  have e : 23 + 2 * t.val = (22 + 2 * t.val) + 1 := by omega
  rw [e]
  split
  · next h => exact tri_send x κ c (.s t) (t256 bV t) (t160 bI ⟨t.val, h⟩) fullShare.right.left (fun _ => rfl) (fun _ => dif_pos h) rfl _ _ _
  · next h => exact tri_send x κ c (.s t) (t256 bV t) (oOwn c t) fullShare.right.left (fun _ => rfl) (fun _ => dif_neg h) rfl _ _ _

/-- What follows either way follows the choice. -/
theorem dite_bind {h₀ : Prop} [Decidable h₀] (a : h₀ → P F PUnit) (b : ¬ h₀ → P F PUnit) (d : P F PUnit) :
    (if h : h₀ then (a h >>= fun _ => d) else (b h >>= fun _ => d)) = ((if h : h₀ then a h else b h) >>= fun _ => d) := by
  split <;> rfl

/-- A wait for a remote copy is the wait for the send, then for what was received. -/
theorem tri_waitR (k : RC) {sp : Space} (src : Memref sig .tc .vmem S16x1024 .f32) (dst : Memref sig .tc sp S16x1024 .f32)
    (h₁ : src.view.dmaCredit = N) (h₂ : dst.view.dmaCredit = N) (n : ℕ) (hl : ∀ k' : RC, n ≤ k'.ord → lvK (.rcv k) < lvK (.rcv k')) :
    x.tri κ c iprop((wt c (.snd k) ∗ wt c (.rcv k)) ∗ J c n) (waitR k src dst)
      iprop(((semVal (cell c (.snd k)) 0 ∗ srcOwn c k (x.cont c k)) ∗ semVal (cell c (.rcv k)) 0 ∗ dstOwn c (pr c k.dir) k (x.cont (pr c k.dir) k)) ∗ J c n) := by
  have hw₁ := tri_wait x κ c (.snd k) (by simp) (sSem k) rfl dst src h₁ n
    (fun k' hk' => by have := hl k' hk'; exact lt_of_le_of_lt (Nat.zero_le _) this)
  have hw₂ := tri_wait x κ c (.rcv k) (by simp) (rSem k) rfl src dst h₂ n hl
  refine tri_seq x κ c (tri_pre x κ c ?_ (tri_frame x κ c (R := wt c (.rcv k)) hw₁)) (tri_conseq x κ c ?_ ?_
    (tri_frame x κ c (R := iprop(semVal (cell c (.snd k)) 0 ∗ srcOwn c k (x.cont c k))) hw₂))
  · iintro ⟨⟨H₁, H₂⟩, HJ⟩
    isplitr [H₂]
    · isplitl [H₁] <;> iassumption
    · iexact H₂
  · iintro ⟨⟨H₁, HJ⟩, H₂⟩
    isplitr [H₁]
    · isplitl [H₂] <;> iassumption
    · iexact H₁
  · iintro ⟨⟨H₂, HJ⟩, H₁⟩
    isplitr [HJ]
    · isplitl [H₁]; · iexact H₁
      iexact H₂
    · iexact HJ

/-- Tile `t` of the own group, computed from both summands' rows. -/
theorem tri_tileOwn (t : Fin 16) :
    x.tri κ c
      iprop(srcOwn c (.y t) (x.cont c (.y t)) ∗ dstOwn c (pr c (RC.y t).dir) (.y t) (x.cont (pr c (RC.y t).dir) (.y t))
        ∗ ownsTc c (t256 bR t) fullShare (rows (x.r c) (grp c) t) ∗ (∃ v, ownsTc c (t256 bV t) fullShare v) ∗ ownsTc c aG fullShare (x.g c))
      (tileStep bP bY bR bV ![16 * t.val, 0] (tileIn256 t))
      iprop((ownsTc c (t256 bP t) fullShare (rows (x.p c) (grp c) t) ∗ ownsTc c (t256 bY t) fullShare (rows (x.p (pr c 1)) (grp c) t)
          ∗ ownsTc c (t256 bR t) fullShare (rows (x.r c) (grp c) t))
        ∗ ownsTc c (t256 bV t) fullShare (x.val c (grp c) t) ∗ ownsTc c aG fullShare (x.g c)) := by
  have e : dstOwn c (pr c (RC.y t).dir) (.y t) (x.cont (pr c (RC.y t).dir) (.y t))
      = ownsTc c (t256 bY t) fullShare (rows (x.p (pr c 1)) (grp c) t) := by
    show ownsTc c (t256 bY t) fullShare (rows (x.p (pr c 1)) (grp (pr c 1)) t) = _
    rw [grp_y]
  rw [e]
  refine tri_conseq x κ c .rfl ?_ (tri_tile x κ c bP bY bR bV ![16 * t.val, 0] (tileIn256 t) (rows (x.p c) (grp c) t)
    (rows (x.p (pr c 1)) (grp c) t) (rows (x.r c) (grp c) t) (x.g c))
  iintro ⟨HP, HY, HR, HV, Hg⟩
  isplitr [HV Hg]
  · isplitl [HP]; · iexact HP
    isplitl [HY]; · iexact HY
    iexact HR
  · isplitl [HV]; · iexact HV
    iexact Hg

/-- Tile `i` of the diagonal group, computed from both summands' rows. -/
theorem tri_tileDiag (i : Fin 6) :
    x.tri κ c
      iprop(srcOwn c (.d i) (x.cont c (.d i)) ∗ dstOwn c (pr c (RC.d i).dir) (.d i) (x.cont (pr c (RC.d i).dir) (.d i))
        ∗ ownsTc c (t96 bRd i) fullShare (rows (x.r c) (dgrp c) (hi i)) ∗ (∃ v, ownsTc c (t96 bVd i) fullShare v) ∗ ownsTc c aG fullShare (x.g c))
      (tileStep bPd bYd bRd bVd ![16 * i.val, 0] (tileIn96 i))
      iprop((ownsTc c (t96 bPd i) fullShare (rows (x.p c) (dgrp c) (hi i)) ∗ ownsTc c (t96 bYd i) fullShare (rows (x.p (pr c 1)) (dgrp c) (hi i))
          ∗ ownsTc c (t96 bRd i) fullShare (rows (x.r c) (dgrp c) (hi i)))
        ∗ ownsTc c (t96 bVd i) fullShare (x.val c (dgrp c) (hi i)) ∗ ownsTc c aG fullShare (x.g c)) := by
  have e : dstOwn c (pr c (RC.d i).dir) (.d i) (x.cont (pr c (RC.d i).dir) (.d i))
      = ownsTc c (t96 bYd i) fullShare (rows (x.p (pr c 1)) (dgrp c) (hi i)) := by
    show ownsTc c (t96 bYd i) fullShare (rows (x.p (pr c 1)) (dgrp (pr c 1)) (hi i)) = _
    rw [dgrp_y]
  rw [e]
  refine tri_conseq x κ c .rfl ?_ (tri_tile x κ c bPd bYd bRd bVd ![16 * i.val, 0] (tileIn96 i) (rows (x.p c) (dgrp c) (hi i))
    (rows (x.p (pr c 1)) (dgrp c) (hi i)) (rows (x.r c) (dgrp c) (hi i)) (x.g c))
  iintro ⟨HP, HY, HR, HV, Hg⟩
  isplitr [HV Hg]
  · isplitl [HP]; · iexact HP
    isplitl [HY]; · iexact HY
    iexact HR
  · isplitl [HV]; · iexact HV
    iexact Hg

/-- Before tile `t` of the own group. -/
def ownA (t : Fin 16) : sProp 𝕄 :=
  iprop((wt c (.snd (.y t)) ∗ wt c (.rcv (.y t))) ∗ ownsTc c (t256 bR t) fullShare (rows (x.r c) (grp c) t) ∗ (∃ v, ownsTc c (t256 bV t) fullShare v)
    ∗ tok c (.lcl (.st t)) ∗ (∃ Y, ownsTc c (oOwn c t) fullShare Y) ∗ kit c (.s t) ∗ kit c (.b t))
/-- After it: two counters back, its inputs, and three copies under way. -/
def ownB (t : Fin 16) : sProp 𝕄 :=
  iprop((semVal (cell c (.snd (.y t))) 0 ∗ semVal (cell c (.rcv (.y t))) 0)
    ∗ (ownsTc c (t256 bP t) fullShare (rows (x.p c) (grp c) t) ∗ ownsTc c (t256 bY t) fullShare (rows (x.p (pr c 1)) (grp c) t)
      ∗ ownsTc c (t256 bR t) fullShare (rows (x.r c) (grp c) t))
    ∗ wt c (.lcl (.st t)) ∗ wt c (.snd (.s t)) ∗ wt c (.snd (.b t)))
/-- The scales, and what is still owed. -/
def JG (n : ℕ) : sProp 𝕄 := iprop(ownsTc c aG fullShare (x.g c) ∗ J c n)

theorem tri_own (t : Fin 16) :
    x.tri κ c iprop(ownA x c t ∗ JG x c (22 + 2 * t.val)) (ownStep c t) iprop(ownB x c t ∗ JG x c (22 + 2 * (t.val + 1))) := fun Q => by
  unfold wpc ownStep
  simp only [dite_bind, wp_bind]
  unfold ownA JG
  iintro ⟨#Hx, ⟨⟨Hw, HR, HV, Htok, HO, Hks, Hkb⟩, Hg, HJ⟩, Hk⟩
  iapply (tri_waitR x κ c (.y t) (t256 bP t) (t256 bY t) rfl rfl (22 + 2 * t.val)
    (by intro k' hk'; cases k' <;> simp only [RC.ord] at hk' <;> simp only [lvK] <;> omega) _)
  isplitr; · iexact Hx
  isplitl [Hw HJ]; · isplitl [Hw] <;> iassumption
  iintro ⟨⟨⟨Hv1, HP⟩, Hv2, HY⟩, HJ⟩
  iapply (tri_tileOwn x κ c t _)
  isplitr; · iexact Hx
  isplitl [HP HY HR HV Hg]
  · isplitl [HP]; · iexact HP
    isplitl [HY]; · iexact HY
    isplitl [HR]; · iexact HR
    isplitl [HV] <;> iassumption
  iintro ⟨⟨HP, HY, HR⟩, HV, Hg⟩
  ihave HV2 := (owns_halves (c : Thread nD τ) (t256 bV t) fullShare (x.val c (grp c) t)).1 $$ HV
  icases HV2 with ⟨HVl, HVr⟩
  ihave HV3 := (owns_halves (c : Thread nD τ) (t256 bV t) fullShare.right (x.val c (grp c) t)).1 $$ HVr
  icases HV3 with ⟨HVs, HVb⟩
  ihave HVs := (show owns (c : Thread nD τ) (t256 bV t) fullShare.right.left (x.val c (grp c) t) ⊢ srcOwn c (.s t) (x.cont c (.s t)) from .rfl) $$ HVs
  ihave HVb := (show owns (c : Thread nD τ) (t256 bV t) fullShare.right.right (x.val c (grp c) t) ⊢ srcOwn c (.b t) (x.cont c (.b t)) from .rfl) $$ HVb
  iapply (tri_copy x κ c (.st t) (t256 bV t) (oOwn c t) fullShare.left (x.val c (grp c) t) .rfl rfl _ _ _ _)
  isplitr; · iexact Hx
  isplitl [Htok HVl HO]
  · isplitl [Htok]; · iexact Htok
    isplitl [HVl] <;> iassumption
  iintro Hst
  iapply (tri_sendS x κ c t _)
  isplitr; · iexact Hx
  isplitl [Hks HVs HJ]
  · isplitl [Hks]; · iexact Hks
    isplitl [HVs]; · iexact HVs
    iexact HJ
  iintro ⟨Hws, HJ⟩
  iapply (tri_send x κ c (.b t) (t256 bV t) (oOwn c t) fullShare.right.right (fun _ => rfl) (fun _ => rfl) rfl _ _ _ _)
  isplitr; · iexact Hx
  isplitl [Hkb HVb HJ]
  · isplitl [Hkb]; · iexact Hkb
    isplitl [HVb]; · iexact HVb
    iexact HJ
  iintro ⟨Hwb, HJ⟩
  iapply Hk
  unfold ownB
  isplitr [Hg HJ]
  · isplitl [Hv1 Hv2]; · isplitl [Hv1] <;> iassumption
    isplitl [HP HY HR]
    · isplitl [HP]; · iexact HP
      isplitl [HY] <;> iassumption
    isplitl [Hst]; · iexact Hst
    isplitl [Hws] <;> iassumption
  · isplitl [Hg]; · iexact Hg
    rw [show 22 + 2 * (t.val + 1) = (RC.b t).ord + 1 from by show 22 + 2 * (t.val + 1) = 23 + 2 * t.val + 1; omega]
    iexact HJ

/-! ## Storing and passing on a tile received -/

/-- Before tile `t` received from a neighbour. -/
def gotA (t : Fin 10) : sProp 𝕄 :=
  iprop((wt c (.snd (.s (lo t))) ∗ wt c (.rcv (.s (lo t)))) ∗ tok c (.lcl (.sv t)) ∗ (∃ Y, ownsTc c (oGot c t) fullShare Y) ∗ kit c (.w t))
/-- After it: two counters back, the share of the own tile that was sent, and two copies under way. -/
def gotB (t : Fin 10) : sProp 𝕄 :=
  iprop((semVal (cell c (.snd (.s (lo t)))) 0 ∗ semVal (cell c (.rcv (.s (lo t)))) 0) ∗ srcOwn c (.s (lo t)) (x.val c (grp c) (lo t))
    ∗ wt c (.lcl (.sv t)) ∗ wt c (.snd (.w t)))

theorem tri_got (t : Fin 10) :
    x.tri κ c iprop(gotA c t ∗ J c (54 + t.val)) (gotStep c t) iprop(gotB x c t ∗ J c (54 + (t.val + 1))) := fun Q => by
  unfold wpc gotStep
  simp only [wp_bind]
  unfold gotA
  iintro ⟨#Hx, ⟨⟨Hw, Htok, HO, Hkw⟩, HJ⟩, Hk⟩
  iapply (tri_waitR x κ c (.s (lo t)) (t256 bV (lo t)) (t160 bI t) rfl rfl (54 + t.val)
    (by intro k' hk'; cases k' <;> simp only [RC.ord] at hk' <;> simp only [lvK] <;> omega) _)
  isplitr; · iexact Hx
  isplitl [Hw HJ]; · isplitl [Hw] <;> iassumption
  iintro ⟨⟨⟨Hv1, HV⟩, Hv2, HI⟩, HJ⟩
  ihave HI := (show dstOwn c (pr c (RC.s (lo t)).dir) (.s (lo t)) (x.cont (pr c (RC.s (lo t)).dir) (.s (lo t))) ⊢ ownsTc c (t160 bI t) fullShare (x.cont c (.w t)) from
    Entails.of_eq (dif_pos t.isLt)) $$ HI
  ihave HI2 := (owns_halves (c : Thread nD τ) (t160 bI t) fullShare (x.cont c (.w t))).1 $$ HI
  icases HI2 with ⟨HIl, HIr⟩
  iapply (tri_copy x κ c (.sv t) (t160 bI t) (oGot c t) fullShare.left (x.cont c (.w t)) .rfl rfl _ _ _ _)
  isplitr; · iexact Hx
  isplitl [Htok HIl HO]
  · isplitl [Htok]; · iexact Htok
    isplitl [HIl] <;> iassumption
  iintro Hsv
  ihave HIr := (show owns (c : Thread nD τ) (t160 bI t) fullShare.right (x.cont c (.w t)) ⊢ srcOwn c (.w t) (x.cont c (.w t)) from .rfl) $$ HIr
  iapply (tri_send x κ c (.w t) (t160 bI t) (oGot c t) fullShare.right (fun _ => rfl) (fun _ => rfl) rfl _ _ _ _)
  isplitr; · iexact Hx
  isplitl [Hkw HIr HJ]
  · isplitl [Hkw]; · iexact Hkw
    isplitl [HIr]; · iexact HIr
    iexact HJ
  iintro ⟨Hww, HJ⟩
  iapply Hk
  unfold gotB
  isplitr [HJ]
  · isplitl [Hv1 Hv2]; · isplitl [Hv1] <;> iassumption
    isplitl [HV]; · iexact HV
    isplitl [Hsv] <;> iassumption
  · iexact HJ

/-! ## Computing and storing a tile of the diagonal group -/

def diagA (i : Fin 6) : sProp 𝕄 :=
  iprop((wt c (.snd (.d i)) ∗ wt c (.rcv (.d i))) ∗ ownsTc c (t96 bRd i) fullShare (rows (x.r c) (dgrp c) (hi i)) ∗ (∃ v, ownsTc c (t96 bVd i) fullShare v)
    ∗ tok c (.lcl (.sd i)) ∗ ∃ Y, ownsTc c (oDiag c i) fullShare Y)
def diagB (i : Fin 6) : sProp 𝕄 :=
  iprop((semVal (cell c (.snd (.d i))) 0 ∗ semVal (cell c (.rcv (.d i))) 0)
    ∗ (ownsTc c (t96 bPd i) fullShare (rows (x.p c) (dgrp c) (hi i)) ∗ ownsTc c (t96 bYd i) fullShare (rows (x.p (pr c 1)) (dgrp c) (hi i))
      ∗ ownsTc c (t96 bRd i) fullShare (rows (x.r c) (dgrp c) (hi i)))
    ∗ wt c (.lcl (.sd i)))

theorem tri_diag (i : Fin 6) :
    x.tri κ c iprop(diagA x c i ∗ JG x c 64) (diagStep c i) iprop(diagB x c i ∗ JG x c 64) := fun Q => by
  unfold wpc diagStep
  simp only [wp_bind]
  unfold diagA JG
  iintro ⟨#Hx, ⟨⟨Hw, HR, HV, Htok, HO⟩, Hg, HJ⟩, Hk⟩
  iapply (tri_waitR x κ c (.d i) (t96 bPd i) (t96 bYd i) rfl rfl 64 (fun k' hk' => absurd hk' (by have := k'.ord_lt; omega)) _)
  isplitr; · iexact Hx
  isplitl [Hw HJ]; · isplitl [Hw] <;> iassumption
  iintro ⟨⟨⟨Hv1, HP⟩, Hv2, HY⟩, HJ⟩
  iapply (tri_tileDiag x κ c i _)
  isplitr; · iexact Hx
  isplitl [HP HY HR HV Hg]
  · isplitl [HP]; · iexact HP
    isplitl [HY]; · iexact HY
    isplitl [HR]; · iexact HR
    isplitl [HV] <;> iassumption
  iintro ⟨⟨HP, HY, HR⟩, HV, Hg⟩
  iapply (tri_copy x κ c (.sd i) (t96 bVd i) (oDiag c i) fullShare (x.val c (dgrp c) (hi i)) .rfl rfl _ _ _ _)
  isplitr; · iexact Hx
  isplitl [Htok HV HO]
  · isplitl [Htok]; · iexact Htok
    isplitl [HV] <;> iassumption
  iintro Hst
  iapply Hk
  unfold diagB
  isplitr [Hg HJ]
  · isplitl [Hv1 Hv2]; · isplitl [Hv1] <;> iassumption
    isplitl [HP HY HR]
    · isplitl [HP]; · iexact HP
      isplitl [HY] <;> iassumption
    iexact Hst
  · isplitl [Hg] <;> iassumption

end Cert.KernelIdeal.Tiled
end
end
-- ==== Proof.Phases.lean ====
/-
# The body's phases, and the whole body

What each phase of the body takes and gives, the loops by their tiles; then the whole body, from
what a core starts with to what it ends with.
-/
module

public import proofs.«01_k».proof.Proof.Steps

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of resources -/

section Families

variable {I : Type} [Fintype I] {P Q R S : I → sProp (MT nD τ sig Unit (Elt F) ℕ UU ℕ)}

/-- Two families joined index by index. -/
theorem join2 (h : ∀ i, iprop(P i ∗ Q i) ⊢ R i) : iprop(bigSep Finset.univ P ∗ bigSep Finset.univ Q) ⊢ bigSep Finset.univ R := by
  rw [← bigSep_sep']
  exact bigSep_mono fun i _ => h i
/-- A family split in two index by index. -/
theorem part2 (h : ∀ i, R i ⊢ iprop(P i ∗ Q i)) : bigSep Finset.univ R ⊢ iprop(bigSep Finset.univ P ∗ bigSep Finset.univ Q) := by
  rw [← bigSep_sep']
  exact bigSep_mono fun i _ => h i
theorem map1 (h : ∀ i, P i ⊢ Q i) : bigSep Finset.univ P ⊢ bigSep Finset.univ Q := bigSep_mono fun i _ => h i

theorem fin3 (Φ : Fin 3 → sProp 𝕄) : bigSep Finset.univ Φ = iprop(Φ 0 ∗ Φ 1 ∗ Φ 2) := by
  rw [show (Finset.univ : Finset (Fin 3)) = insert 0 (insert 1 {2}) from by decide, bigSep_insert (by decide), bigSep_insert (by decide), bigSep_singleton]
  rfl
theorem fin4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, bigSep_insert (by decide), bigSep_insert (by decide),
    bigSep_insert (by decide), bigSep_singleton]
  rfl

/-- Sixteen tiles are the first ten and the last six. -/
def lohi : Fin 10 ⊕ Fin 6 ≃ Fin 16 where
  toFun := Sum.elim lo hi
  invFun t := if h : t.val < 10 then .inl ⟨t.val, h⟩ else .inr ⟨t.val - 10, by omega⟩
  left_inv := by decide
  right_inv := by decide
theorem fin16 (Φ : Fin 16 → sProp 𝕄) :
    bigSep Finset.univ Φ = iprop((bigSep Finset.univ fun t : Fin 10 => Φ (lo t)) ∗ bigSep Finset.univ fun i : Fin 6 => Φ (hi i)) :=
  (bigSep_univ_equiv lohi Φ).trans (bigSep_univ_sum _)

/-- The remote copies, kind by kind. -/
theorem rc_eq (Φ : RC → sProp 𝕄) :
    bigSep Finset.univ Φ = iprop((bigSep Finset.univ fun t : Fin 16 => Φ (.y t)) ∗ (bigSep Finset.univ fun i : Fin 6 => Φ (.d i))
      ∗ (bigSep Finset.univ fun t : Fin 16 => Φ (.s t)) ∗ (bigSep Finset.univ fun t : Fin 16 => Φ (.b t)) ∗ bigSep Finset.univ fun t : Fin 10 => Φ (.w t)) := by
  rw [bigSep_univ_equiv RC.sum.symm Φ, bigSep_univ_sum, bigSep_univ_sum, bigSep_univ_sum, bigSep_univ_sum]
  rfl
/-- The local copies, kind by kind. -/
theorem lc_eq (Φ : LC → sProp 𝕄) :
    bigSep Finset.univ Φ = iprop((bigSep Finset.univ fun i : Fin 4 => Φ (.cp i)) ∗ (bigSep Finset.univ fun t : Fin 16 => Φ (.st t))
      ∗ (bigSep Finset.univ fun i : Fin 6 => Φ (.sd i)) ∗ bigSep Finset.univ fun t : Fin 10 => Φ (.sv t)) := by
  rw [bigSep_univ_equiv LC.sum.symm Φ, bigSep_univ_sum, bigSep_univ_sum, bigSep_univ_sum]
  rfl

end Families

variable (x : In F) (κ : GSem nD τ sig → ℕ) (c : Dev nD)

/-! ## Reading the inputs, and the barrier -/

/-- The shares of the two inputs that the body reads. -/
def inputs : sProp 𝕄 :=
  iprop((ownsTc c (own256 aP c) fullShare.left (ownRows (x.p c) c) ∗ ownsTc c (own256 aR c) fullShare.left (ownRows (x.r c) c))
    ∗ ownsTc c (diag96 aP c) fullShare.right (diagRows (x.p c) c) ∗ ownsTc c (diag96 aR c) fullShare.right (diagRows (x.r c) c))

/-- The four buffers the inputs' rows are read into. -/
def inBufs : sProp 𝕄 :=
  iprop(((∃ Y, ownsTc c bP fullShare Y) ∗ ∃ Y, ownsTc c bR fullShare Y) ∗ (∃ Y, ownsTc c bPd fullShare Y) ∗ ∃ Y, ownsTc c bRd fullShare Y)

/-- A neighbour's barrier cell, to be raised, and what is handed over with it. -/
def sig1 (j : Fin 3) : sProp 𝕄 := iprop(dutyTok ER (cell (pr c j) .bar) 0 j ∗ reached ER (cell (pr c j) .bar) 0 ∗ give c j)

theorem tri_phaseA :
    x.tri κ c
      iprop((bigSep Finset.univ fun i : Fin 4 => tok c (.lcl (.cp i))) ∗ inputs x c ∗ inBufs c
        ∗ (cred (tallyAt (cell c .bar) () 3) ∗ atPos ER (cell c .bar) 0 ∅ 0) ∗ (bigSep Finset.univ fun j : Fin 3 => sig1 c j) ∗ ∃ W, owes (c : Thread nD τ) (O₀ c) W)
      (phaseA c)
      iprop((bigSep Finset.univ fun i : Fin 4 => wt c (.lcl (.cp i))) ∗ (semVal (cell c .bar) 0 ∗ bigSep Finset.univ fun j => barPay (F := F) c j) ∗ J c 0) := fun Q => by
  rw [fin4, fin4, fin3]
  unfold wpc phaseA inputs inBufs sig1
  simp only [wp_bind]
  iintro ⟨#Hx, ⟨⟨Ht0, Ht1, Ht2, Ht3⟩, ⟨⟨HP, HR⟩, HPd, HRd⟩, ⟨⟨HbP, HbR⟩, HbPd, HbRd⟩, Hbar, ⟨Hs0, Hs1, Hs2⟩, HO⟩, Hk⟩
  iapply (tri_copy x κ c (.cp 0) (own256 aP c) bP fullShare.left (ownRows (x.p c) c) .rfl rfl _ _ _ _)
  isplitr; · iexact Hx
  isplitl [Ht0 HP HbP]; · isplitl [Ht0]; · iexact Ht0
                          isplitl [HP] <;> iassumption
  iintro Hw0
  iapply (tri_copy x κ c (.cp 1) (own256 aR c) bR fullShare.left (ownRows (x.r c) c) .rfl rfl _ _ _ _)
  isplitr; · iexact Hx
  isplitl [Ht1 HR HbR]; · isplitl [Ht1]; · iexact Ht1
                          isplitl [HR] <;> iassumption
  iintro Hw1
  iapply (tri_copy x κ c (.cp 2) (diag96 aP c) bPd fullShare.right (diagRows (x.p c) c) .rfl rfl _ _ _ _)
  isplitr; · iexact Hx
  isplitl [Ht2 HPd HbPd]; · isplitl [Ht2]; · iexact Ht2
                            isplitl [HPd] <;> iassumption
  iintro Hw2
  iapply (tri_copy x κ c (.cp 3) (diag96 aR c) bRd fullShare.right (diagRows (x.r c) c) .rfl rfl _ _ _ _)
  isplitr; · iexact Hx
  isplitl [Ht3 HRd HbRd]; · isplitl [Ht3]; · iexact Ht3
                            isplitl [HRd] <;> iassumption
  iintro Hw3
  iapply (tri_signal x κ c 0 (owe c 0 + oweBar c 2 + oweBar c 1) _)
  isplitr; · iexact Hx
  isplitl [Hs0 HO]; · isplitl [Hs0]; · iexact Hs0
                      iexact HO
  iintro HO
  iapply (tri_signal x κ c 1 (owe c 0 + oweBar c 2) _)
  isplitr; · iexact Hx
  isplitl [Hs1 HO]; · isplitl [Hs1]; · iexact Hs1
                      iexact HO
  iintro HO
  iapply (tri_signal x κ c 2 (owe c 0) _)
  isplitr; · iexact Hx
  isplitl [Hs2 HO]; · isplitl [Hs2]; · iexact Hs2
                      iexact HO
  iintro HO
  ihave HJ := (show iprop(∃ W, owes (c : Thread nD τ) (owe c 0) W) ⊢ (J c 0 : sProp 𝕄) from .rfl) $$ HO
  iapply (tri_barWait x κ c _)
  isplitr; · iexact Hx
  isplitl [Hbar HJ]; · isplitl [Hbar] <;> iassumption
  iintro ⟨Hb, HJ⟩
  iapply Hk
  isplitl [Hw0 Hw1 Hw2 Hw3]
  · isplitl [Hw0]; · iexact Hw0
    isplitl [Hw1]; · iexact Hw1
    isplitl [Hw2] <;> iassumption
  isplitl [Hb] <;> iassumption

/-! ## What a wait gives -/

/-- What waiting for a remote copy gives: two counters back, the source, and the copy received. -/
def rgot (k : RC) : sProp 𝕄 :=
  iprop((semVal (cell c (.snd k)) 0 ∗ srcOwn c k (x.cont c k)) ∗ semVal (cell c (.rcv k)) 0 ∗ dstOwn c (pr c k.dir) k (x.cont (pr c k.dir) k))
/-- What waiting for a local copy gives: the counter back, and what the copy delivers. -/
def lgot (k : LC) : sProp 𝕄 := iprop(semVal (cell c (.lcl k)) 0 ∗ x.lclPay c k)

/-! What each of the four reads gives. -/
theorem lgot_cp0 : lgot x c (.cp 0) ⊢ iprop(semVal (cell c (.lcl (.cp 0))) 0 ∗ ownsTc c bP fullShare (ownRows (x.p c) c) ∗ ownsTc c (own256 aP c) fullShare.left (ownRows (x.p c) c)) := .rfl
theorem lgot_cp1 : lgot x c (.cp 1) ⊢ iprop(semVal (cell c (.lcl (.cp 1))) 0 ∗ ownsTc c bR fullShare (ownRows (x.r c) c) ∗ ownsTc c (own256 aR c) fullShare.left (ownRows (x.r c) c)) := .rfl
theorem lgot_cp2 : lgot x c (.cp 2) ⊢ iprop(semVal (cell c (.lcl (.cp 2))) 0 ∗ ownsTc c bPd fullShare (diagRows (x.p c) c) ∗ ownsTc c (diag96 aP c) fullShare.right (diagRows (x.p c) c)) := .rfl
theorem lgot_cp3 : lgot x c (.cp 3) ⊢ iprop(semVal (cell c (.lcl (.cp 3))) 0 ∗ ownsTc c bRd fullShare (diagRows (x.r c) c) ∗ ownsTc c (diag96 aR c) fullShare.right (diagRows (x.r c) c)) := .rfl

theorem tri_waitL (k : LC) {sp sp' : Space} {s : Shape} (src : Memref sig .tc sp s .f32) (dst : Memref sig .tc sp' s .f32)
    (hN : dst.view.dmaCredit = amtL k) (n : ℕ) (hn : ∀ k' : RC, 0 < lvK (.rcv k')) :
    x.tri κ c iprop(wt c (.lcl k) ∗ J c n) (waitD (lSem k) src dst) iprop(lgot x c k ∗ J c n) :=
  tri_wait x κ c (.lcl k) (by simp) (lSem k) rfl src dst hN n (fun k' _ => hn k')
theorem lv_rcv (k : RC) : 0 < lvK (.rcv k) := by cases k <;> simp [lvK]

/-! ## Sending the summands -/

/-- The summand's tiles of the core's own rows. -/
theorem ownTiles (m : Memref sig .tc .vmem S256x1024 .f32) (A : Vec F S1024x1024 .f32) :
    ownsTc c m fullShare (ownRows A c) ⊢ (bigSep Finset.univ fun t : Fin 16 => ownsTc c (m.slice (r256 t) (fun _ => rfl)) fullShare (rows A (grp c) t) : sProp 𝕄) := by
  refine (owns_rects (c : Thread nD τ) m fullShare r256 (fun _ _ => rfl) disj256 cover256 (ownRows A c)).trans (Entails.of_eq (bigSep_congr fun t _ => ?_))
  rw [ownRows_tile]
theorem diagTiles (m : Memref sig .tc .vmem S96x1024 .f32) (A : Vec F S1024x1024 .f32) :
    ownsTc c m fullShare (diagRows A c) ⊢ (bigSep Finset.univ fun i : Fin 6 => ownsTc c (m.slice (r96 i) (fun _ => rfl)) fullShare (rows A (dgrp c) (hi i)) : sProp 𝕄) := by
  refine (owns_rects (c : Thread nD τ) m fullShare r96 (fun _ _ => rfl) disj96 cover96 (diagRows A c)).trans (Entails.of_eq (bigSep_congr fun t _ => ?_))
  rw [diagRows_tile]

theorem tri_phaseB :
    x.tri κ c
      iprop((bigSep Finset.univ fun i : Fin 4 => wt c (.lcl (.cp i))) ∗ (bigSep Finset.univ fun t : Fin 16 => kit c (.y t)) ∗ (bigSep Finset.univ fun i : Fin 6 => kit c (.d i)) ∗ J c 0)
      (phaseB c)
      iprop((bigSep Finset.univ fun i : Fin 4 => semVal (cell c (.lcl (.cp i))) 0) ∗ inputs x c
        ∗ (bigSep Finset.univ fun t : Fin 16 => wt c (.snd (.y t))) ∗ (bigSep Finset.univ fun i : Fin 6 => wt c (.snd (.d i)))
        ∗ (bigSep Finset.univ fun t : Fin 16 => ownsTc c (t256 bR t) fullShare (rows (x.r c) (grp c) t))
        ∗ (bigSep Finset.univ fun i : Fin 6 => ownsTc c (t96 bRd i) fullShare (rows (x.r c) (dgrp c) (hi i)))
        ∗ J c 22) := fun Q => by
  rw [fin4, fin4]
  unfold wpc phaseB inputs
  simp only [wp_bind]
  iintro ⟨#Hx, ⟨⟨Hw0, Hw1, Hw2, Hw3⟩, Hky, Hkd, HJ⟩, Hk⟩
  iapply (tri_waitL x κ c (.cp 0) (own256 aP c) bP rfl 0 lv_rcv _)
  isplitr; · iexact Hx
  isplitl [Hw0 HJ]; · isplitl [Hw0] <;> iassumption
  iintro ⟨H, HJ⟩
  ihave H := (lgot_cp0 x c) $$ H
  icases H with ⟨Hv0, HbP, HP⟩
  ihave HbP := (ownTiles c bP (x.p c)) $$ HbP
  ihave Hy := (join2 (P := fun t : Fin 16 => kit c (.y t)) (Q := fun t : Fin 16 => srcOwn c (.y t) (x.cont c (.y t))) (fun _ => .rfl)) $$ [Hky HbP]
  · isplitl [Hky]; · iexact Hky
    iexact HbP
  iapply (tri_loop x κ c (yStep c) _ (fun t => wt c (.snd (.y t))) (fun n => J c n) (tri_y x κ c) _)
  isplitr; · iexact Hx
  isplitl [Hy HJ]; · isplitl [Hy] <;> iassumption
  iintro ⟨Hwy, HJ⟩
  iapply (tri_waitL x κ c (.cp 2) (diag96 aP c) bPd rfl 16 lv_rcv _)
  isplitr; · iexact Hx
  isplitl [Hw2 HJ]; · isplitl [Hw2] <;> iassumption
  iintro ⟨H, HJ⟩
  ihave H := (lgot_cp2 x c) $$ H
  icases H with ⟨Hv2, HbPd, HPd⟩
  ihave HbPd := (diagTiles c bPd (x.p c)) $$ HbPd
  ihave Hd := (join2 (P := fun i : Fin 6 => kit c (.d i)) (Q := fun i : Fin 6 => srcOwn c (.d i) (x.cont c (.d i))) (fun _ => .rfl)) $$ [Hkd HbPd]
  · isplitl [Hkd]; · iexact Hkd
    iexact HbPd
  iapply (tri_loop x κ c (dStep c) _ (fun i => wt c (.snd (.d i))) (fun n => J c (16 + n)) (tri_d x κ c) _)
  isplitr; · iexact Hx
  isplitl [Hd HJ]; · isplitl [Hd]; · iexact Hd
                     iexact HJ
  iintro ⟨Hwd, HJ⟩
  iapply (tri_waitL x κ c (.cp 1) (own256 aR c) bR rfl 22 lv_rcv _)
  isplitr; · iexact Hx
  isplitl [Hw1 HJ]; · isplitl [Hw1]; · iexact Hw1
                      iexact HJ
  iintro ⟨H, HJ⟩
  ihave H := (lgot_cp1 x c) $$ H
  icases H with ⟨Hv1, HbR, HR⟩
  iapply (tri_waitL x κ c (.cp 3) (diag96 aR c) bRd rfl 22 lv_rcv _)
  isplitr; · iexact Hx
  isplitl [Hw3 HJ]; · isplitl [Hw3] <;> iassumption
  iintro ⟨H, HJ⟩
  ihave H := (lgot_cp3 x c) $$ H
  icases H with ⟨Hv3, HbRd, HRd⟩
  ihave HbR := (ownTiles c bR (x.r c)) $$ HbR
  ihave HbRd := (diagTiles c bRd (x.r c)) $$ HbRd
  iapply Hk
  isplitl [Hv0 Hv1 Hv2 Hv3]
  · isplitl [Hv0]; · iexact Hv0
    isplitl [Hv1]; · iexact Hv1
    isplitl [Hv2] <;> iassumption
  isplitl [HP HR HPd HRd]
  · isplitl [HP HR]; · isplitl [HP] <;> iassumption
    isplitl [HPd] <;> iassumption
  isplitl [Hwy]; · iexact Hwy
  isplitl [Hwd]; · iexact Hwd
  isplitl [HbR]; · iexact HbR
  isplitl [HbRd] <;> iassumption

/-! ## The last waits -/

/-- Waiting for every copy of a kind. -/
theorem tri_waitsR {n : ℕ} (f : Fin n → RC) (p : Fin n → P F PUnit)
    (h : ∀ t, x.tri κ c iprop((wt c (.snd (f t)) ∗ wt c (.rcv (f t))) ∗ J c 64) (p t) iprop(rgot x c (f t) ∗ J c 64)) :
    x.tri κ c iprop((bigSep Finset.univ fun t => iprop(wt c (.snd (f t)) ∗ wt c (.rcv (f t)))) ∗ J c 64) (loop n p)
      iprop((bigSep Finset.univ fun t => rgot x c (f t)) ∗ J c 64) :=
  tri_loop x κ c p _ _ (fun _ => J c 64) h
theorem tri_waitsL {n : ℕ} (f : Fin n → LC) (p : Fin n → P F PUnit)
    (h : ∀ t, x.tri κ c iprop(wt c (.lcl (f t)) ∗ J c 64) (p t) iprop(lgot x c (f t) ∗ J c 64)) :
    x.tri κ c iprop((bigSep Finset.univ fun t => wt c (.lcl (f t))) ∗ J c 64) (loop n p)
      iprop((bigSep Finset.univ fun t => lgot x c (f t)) ∗ J c 64) :=
  tri_loop x κ c p _ _ (fun _ => J c 64) h
theorem tri_waitR64 (k : RC) {sp : Space} (src : Memref sig .tc .vmem S16x1024 .f32) (dst : Memref sig .tc sp S16x1024 .f32)
    (h₁ : src.view.dmaCredit = N) (h₂ : dst.view.dmaCredit = N) :
    x.tri κ c iprop((wt c (.snd k) ∗ wt c (.rcv k)) ∗ J c 64) (waitR k src dst) iprop(rgot x c k ∗ J c 64) :=
  tri_waitR x κ c k src dst h₁ h₂ 64 (fun k' hk' => absurd hk' (by have := k'.ord_lt; omega))

theorem tri_phaseG :
    x.tri κ c
      iprop(((bigSep Finset.univ fun i : Fin 6 => iprop(wt c (.snd (.s (hi i))) ∗ wt c (.rcv (.s (hi i)))))
          ∗ (bigSep Finset.univ fun t : Fin 16 => iprop(wt c (.snd (.b t)) ∗ wt c (.rcv (.b t))))
          ∗ (bigSep Finset.univ fun t : Fin 10 => iprop(wt c (.snd (.w t)) ∗ wt c (.rcv (.w t))))
          ∗ (bigSep Finset.univ fun t : Fin 16 => wt c (.lcl (.st t))) ∗ (bigSep Finset.univ fun t : Fin 10 => wt c (.lcl (.sv t)))
          ∗ (bigSep Finset.univ fun i : Fin 6 => wt c (.lcl (.sd i)))) ∗ J c 64)
      (phaseG c)
      iprop(((bigSep Finset.univ fun i : Fin 6 => rgot x c (.s (hi i))) ∗ (bigSep Finset.univ fun t : Fin 16 => rgot x c (.b t))
          ∗ (bigSep Finset.univ fun t : Fin 10 => rgot x c (.w t))
          ∗ (bigSep Finset.univ fun t : Fin 16 => lgot x c (.st t)) ∗ (bigSep Finset.univ fun t : Fin 10 => lgot x c (.sv t))
          ∗ (bigSep Finset.univ fun i : Fin 6 => lgot x c (.sd i))) ∗ J c 64) := fun Q => by
  unfold wpc phaseG
  simp only [wp_bind]
  iintro ⟨#Hx, ⟨⟨H1, H2, H3, H4, H5, H6⟩, HJ⟩, Hk⟩
  iapply (tri_waitsR x κ c (fun i : Fin 6 => .s (hi i)) _ (fun i => tri_waitR64 x κ c (.s (hi i)) (t256 bV (hi i)) (oOwn c (hi i)) rfl rfl) _)
  isplitr; · iexact Hx
  isplitl [H1 HJ]; · isplitl [H1] <;> iassumption
  iintro ⟨H1, HJ⟩
  iapply (tri_waitsR x κ c (fun t : Fin 16 => .b t) _ (fun t => tri_waitR64 x κ c (.b t) (t256 bV t) (oOwn c t) rfl rfl) _)
  isplitr; · iexact Hx
  isplitl [H2 HJ]; · isplitl [H2] <;> iassumption
  iintro ⟨H2, HJ⟩
  iapply (tri_waitsR x κ c (fun t : Fin 10 => .w t) _ (fun t => tri_waitR64 x κ c (.w t) (t160 bI t) (oGot c t) rfl rfl) _)
  isplitr; · iexact Hx
  isplitl [H3 HJ]; · isplitl [H3] <;> iassumption
  iintro ⟨H3, HJ⟩
  iapply (tri_waitsL x κ c (fun t : Fin 16 => .st t) _ (fun t => tri_waitL x κ c (.st t) (t256 bV t) (oOwn c t) rfl 64 lv_rcv) _)
  isplitr; · iexact Hx
  isplitl [H4 HJ]; · isplitl [H4] <;> iassumption
  iintro ⟨H4, HJ⟩
  iapply (tri_waitsL x κ c (fun t : Fin 10 => .sv t) _ (fun t => tri_waitL x κ c (.sv t) (t160 bI t) (oGot c t) rfl 64 lv_rcv) _)
  isplitr; · iexact Hx
  isplitl [H5 HJ]; · isplitl [H5] <;> iassumption
  iintro ⟨H5, HJ⟩
  iapply (tri_waitsL x κ c (fun i : Fin 6 => .sd i) _ (fun i => tri_waitL x κ c (.sd i) (t96 bVd i) (oDiag c i) rfl 64 lv_rcv) _)
  isplitr; · iexact Hx
  isplitl [H6 HJ]; · isplitl [H6] <;> iassumption
  iintro ⟨H6, HJ⟩
  iapply Hk
  isplitr [HJ]
  · isplitl [H1]; · iexact H1
    isplitl [H2]; · iexact H2
    isplitl [H3]; · iexact H3
    isplitl [H4]; · iexact H4
    isplitl [H5] <;> iassumption
  · iexact HJ

end Cert.KernelIdeal.Tiled
end
end
-- ==== Proof.Whole.lean ====
/-
# The whole body

From the phases and the loops: the body's triple, from what a core is given to what it ends with.
-/
module

public import proofs.«01_k».proof.Proof.Phases
public import Idealize.ShloMosaic.Lib.Pipeline.Launch

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : In F) (κ : GSem nD τ sig → ℕ) (c : Dev nD)

/-! ## The places handed over at the barrier -/

/-- Where core `c`'s copy `k` lands, with its receive cell open. -/
def land (k : RC) : sProp 𝕄 := iprop((∃ X, dstOwn (F := F) (pr c k.dir) c k X) ∗ reached ER (cell (pr c k.dir) (.rcv k)) 0)
/-- What core `c` has on its own side for its copy `k`. -/
def kit0 (k : RC) : sProp 𝕄 := iprop(tok c (.snd k) ∗ dutyTok ER (cell (pr c k.dir) (.rcv k)) 0 0)

/-- A family over the copies, direction by direction. -/
theorem by_dir (Φ : Fin 3 → RC → sProp 𝕄) :
    (bigSep Finset.univ fun j : Fin 3 => bigSep (Finset.univ.filter fun k : RC => k.dir = j) (Φ j)) = bigSep Finset.univ fun k : RC => Φ k.dir k := by
  rw [bigSep_fiberwise Finset.univ RC.dir (fun k => Φ k.dir k),
    show (Finset.univ : Finset RC).image RC.dir = Finset.univ from by decide]
  refine bigSep_congr fun j _ => bigSep_congr fun k hk => ?_
  rw [(Finset.mem_filter.mp hk).2]

theorem bars : (bigSep Finset.univ fun j => barPay (F := F) c j) = bigSep Finset.univ (land (F := F) c) := by_dir _
theorem gives_eq : (bigSep Finset.univ fun j => give (F := F) c j)
    = bigSep Finset.univ fun k : RC => iprop((∃ X, dstOwn (F := F) c (pr c k.dir) k X) ∗ reached ER (cell c (.rcv k)) 0) := by_dir _

theorem kits : iprop((bigSep Finset.univ (kit0 (F := F) c)) ∗ bigSep Finset.univ (land (F := F) c)) ⊢ bigSep Finset.univ fun k : RC => kit c k := by
  refine join2 fun k => ?_
  unfold kit0 land kit
  iintro ⟨⟨Ht, Hd⟩, Hl, Hr⟩
  isplitl [Ht]; · iexact Ht
  isplitl [Hd]; · iexact Hd
  isplitl [Hl] <;> iassumption

/-! ## Joining and splitting the tiles' resources -/

/-- For tile `t` of the own group: its place in the buffer, its store's cell, its place in the result. -/
def stPre (t : Fin 16) : sProp 𝕄 := iprop((∃ v, ownsTc c (t256 bV t) fullShare v) ∗ tok c (.lcl (.st t)) ∗ ∃ Y, ownsTc c (oOwn c t) fullShare Y)
/-- For tile `t` received: its store's cell and its place in the result. -/
def svPre (t : Fin 10) : sProp 𝕄 := iprop(tok c (.lcl (.sv t)) ∗ ∃ Y, ownsTc c (oGot c t) fullShare Y)
/-- For tile `i` of the diagonal group. -/
def sdPre (i : Fin 6) : sProp 𝕄 := iprop((∃ v, ownsTc c (t96 bVd i) fullShare v) ∗ tok c (.lcl (.sd i)) ∗ ∃ Y, ownsTc c (oDiag c i) fullShare Y)

/-- What tile `t` of the own group leaves at once. -/
def ownY (t : Fin 16) : sProp 𝕄 :=
  iprop((semVal (cell c (.snd (.y t))) 0 ∗ semVal (cell c (.rcv (.y t))) 0)
    ∗ ownsTc c (t256 bP t) fullShare (rows (x.p c) (grp c) t) ∗ ownsTc c (t256 bY t) fullShare (rows (x.p (pr c 1)) (grp c) t)
      ∗ ownsTc c (t256 bR t) fullShare (rows (x.r c) (grp c) t))
/-- What tile `t` received leaves at once. -/
def gotY (t : Fin 10) : sProp 𝕄 :=
  iprop((semVal (cell c (.snd (.s (lo t)))) 0 ∗ semVal (cell c (.rcv (.s (lo t)))) 0) ∗ srcOwn c (.s (lo t)) (x.val c (grp c) (lo t)))
/-- What tile `i` of the diagonal group leaves at once. -/
def diagY (i : Fin 6) : sProp 𝕄 :=
  iprop((semVal (cell c (.snd (.d i))) 0 ∗ semVal (cell c (.rcv (.d i))) 0)
    ∗ (ownsTc c (t96 bPd i) fullShare (rows (x.p c) (dgrp c) (hi i)) ∗ ownsTc c (t96 bYd i) fullShare (rows (x.p (pr c 1)) (dgrp c) (hi i))
      ∗ ownsTc c (t96 bRd i) fullShare (rows (x.r c) (dgrp c) (hi i))))

theorem own_join :
    iprop((bigSep Finset.univ fun t : Fin 16 => wt c (.snd (.y t))) ∗ (bigSep Finset.univ fun t : Fin 16 => wt c (.rcv (.y t)))
        ∗ (bigSep Finset.univ fun t : Fin 16 => ownsTc c (t256 bR t) fullShare (rows (x.r c) (grp c) t))
        ∗ (bigSep Finset.univ (stPre c)) ∗ (bigSep Finset.univ fun t : Fin 16 => kit c (.s t)) ∗ (bigSep Finset.univ fun t : Fin 16 => kit c (.b t)))
      ⊢ bigSep Finset.univ (ownA x c) := by
  simp only [← bigSep_sep']
  refine map1 fun t => ?_
  unfold ownA stPre
  iintro ⟨H1, H2, H3, ⟨H4, H5, H6⟩, H7, H8⟩
  isplitl [H1 H2]; · isplitl [H1] <;> iassumption
  isplitl [H3]; · iexact H3
  isplitl [H4]; · iexact H4
  isplitl [H5]; · iexact H5
  isplitl [H6]; · iexact H6
  isplitl [H7] <;> iassumption

theorem own_split :
    bigSep Finset.univ (ownB x c) ⊢ iprop((bigSep Finset.univ (ownY x c)) ∗ (bigSep Finset.univ fun t : Fin 16 => wt c (.lcl (.st t)))
      ∗ (bigSep Finset.univ fun t : Fin 16 => wt c (.snd (.s t))) ∗ (bigSep Finset.univ fun t : Fin 16 => wt c (.snd (.b t)))) := by
  simp only [← bigSep_sep']
  refine map1 fun t => ?_
  unfold ownB ownY
  iintro ⟨H1, H2, H3, H4, H5⟩
  isplitl [H1 H2]; · isplitl [H1] <;> iassumption
  isplitl [H3]; · iexact H3
  isplitl [H4] <;> iassumption

theorem got_join :
    iprop((bigSep Finset.univ fun t : Fin 10 => wt c (.snd (.s (lo t)))) ∗ (bigSep Finset.univ fun t : Fin 10 => wt c (.rcv (.s (lo t))))
        ∗ (bigSep Finset.univ (svPre c)) ∗ (bigSep Finset.univ fun t : Fin 10 => kit c (.w t)))
      ⊢ bigSep Finset.univ (gotA (F := F) c) := by
  simp only [← bigSep_sep']
  refine map1 fun t => ?_
  unfold gotA svPre
  iintro ⟨H1, H2, ⟨H3, H4⟩, H5⟩
  isplitl [H1 H2]; · isplitl [H1] <;> iassumption
  isplitl [H3]; · iexact H3
  isplitl [H4] <;> iassumption

theorem got_split :
    bigSep Finset.univ (gotB x c) ⊢ iprop((bigSep Finset.univ (gotY x c)) ∗ (bigSep Finset.univ fun t : Fin 10 => wt c (.lcl (.sv t)))
      ∗ (bigSep Finset.univ fun t : Fin 10 => wt c (.snd (.w t)))) := by
  simp only [← bigSep_sep']
  refine map1 fun t => ?_
  unfold gotB gotY
  iintro ⟨H1, H2, H3, H4⟩
  isplitl [H1 H2]; · isplitl [H1] <;> iassumption
  isplitl [H3] <;> iassumption

theorem diag_join :
    iprop((bigSep Finset.univ fun i : Fin 6 => wt c (.snd (.d i))) ∗ (bigSep Finset.univ fun i : Fin 6 => wt c (.rcv (.d i)))
        ∗ (bigSep Finset.univ fun i : Fin 6 => ownsTc c (t96 bRd i) fullShare (rows (x.r c) (dgrp c) (hi i))) ∗ (bigSep Finset.univ (sdPre c)))
      ⊢ bigSep Finset.univ (diagA x c) := by
  simp only [← bigSep_sep']
  refine map1 fun t => ?_
  unfold diagA sdPre
  iintro ⟨H1, H2, H3, ⟨H4, H5, H6⟩⟩
  isplitl [H1 H2]; · isplitl [H1] <;> iassumption
  isplitl [H3]; · iexact H3
  isplitl [H4]; · iexact H4
  isplitl [H5] <;> iassumption

theorem diag_split :
    bigSep Finset.univ (diagB x c) ⊢ iprop((bigSep Finset.univ (diagY x c)) ∗ (bigSep Finset.univ fun i : Fin 6 => wt c (.lcl (.sd i)))) := by
  simp only [← bigSep_sep']
  refine map1 fun t => ?_
  unfold diagB diagY
  iintro ⟨H1, H2, H3⟩
  isplitl [H1 H2]; · isplitl [H1] <;> iassumption
  iexact H3

/-! ## The body -/

/-- What core `c` starts the body with. -/
def bodyA : sProp 𝕄 :=
  iprop(((bigSep Finset.univ fun i : Fin 4 => tok c (.lcl (.cp i))) ∗ inputs x c ∗ inBufs c
      ∗ (cred (tallyAt (cell c .bar) () 3) ∗ atPos ER (cell c .bar) 0 ∅ 0) ∗ (bigSep Finset.univ fun j : Fin 3 => sig1 c j) ∗ ∃ W, owes (c : Thread nD τ) (O₀ c) W)
    ∗ (bigSep Finset.univ (kit0 (F := F) c)) ∗ (bigSep Finset.univ fun k : RC => wt c (.rcv k)) ∗ ownsTc c aG fullShare (x.g c)
    ∗ bigSep Finset.univ (stPre c) ∗ bigSep Finset.univ (svPre c) ∗ bigSep Finset.univ (sdPre c))

/-- What core `c` ends the body with. -/
def bodyB : sProp 𝕄 :=
  iprop((semVal (cell c .bar) 0 ∗ bigSep Finset.univ fun i : Fin 4 => semVal (cell c (.lcl (.cp i))) 0)
    ∗ inputs x c ∗ ownsTc c aG fullShare (x.g c)
    ∗ (bigSep Finset.univ (ownY x c) ∗ bigSep Finset.univ (gotY x c) ∗ bigSep Finset.univ (diagY x c))
    ∗ ((bigSep Finset.univ fun i : Fin 6 => rgot x c (.s (hi i))) ∗ (bigSep Finset.univ fun t : Fin 16 => rgot x c (.b t))
          ∗ (bigSep Finset.univ fun t : Fin 10 => rgot x c (.w t))
          ∗ (bigSep Finset.univ fun t : Fin 16 => lgot x c (.st t)) ∗ (bigSep Finset.univ fun t : Fin 10 => lgot x c (.sv t))
          ∗ (bigSep Finset.univ fun i : Fin 6 => lgot x c (.sd i)))
    ∗ J c 64)

theorem tri_body : x.tri κ c (bodyA x c) body (bodyB x c) := fun Q => by
  unfold wpc body
  simp only [Prog.lift, Prog.bind_op, Prog.bind_ret]
  unfold bodyA bodyB
  iintro ⟨#Hx, ⟨HA, Hkit0, Hrcv, Hg, Hst, Hsv, Hsd⟩, Hk⟩
  rw [wp_deviceId, wp_bind]
  iapply (tri_phaseA x κ c _)
  isplitr; · iexact Hx
  isplitl [HA]; · iexact HA
  iintro ⟨Hwcp, ⟨Hbar, Hland⟩, HJ⟩
  ihave Hland := (Entails.of_eq (bars (F := F) c)) $$ Hland
  ihave Hkits := (kits c) $$ [Hkit0 Hland]
  · isplitl [Hkit0] <;> iassumption
  ihave Hkits := (Entails.of_eq (rc_eq (F := F) (fun k => kit c k))) $$ Hkits
  icases Hkits with ⟨Hky, Hkd, Hks, Hkb, Hkw⟩
  ihave Hrcv := (Entails.of_eq (rc_eq (F := F) (fun k => wt c (.rcv k)))) $$ Hrcv
  icases Hrcv with ⟨Hry, Hrd, Hrs, Hrb, Hrw⟩
  rw [wp_bind]
  iapply (tri_phaseB x κ c _)
  isplitr; · iexact Hx
  isplitl [Hwcp Hky Hkd HJ]
  · isplitl [Hwcp]; · iexact Hwcp
    isplitl [Hky]; · iexact Hky
    isplitl [Hkd] <;> iassumption
  iintro ⟨Hvcp, Hin, Hwy, Hwd, HbR, HbRd, HJ⟩
  ihave Hown := (own_join x c) $$ [Hwy Hry HbR Hst Hks Hkb]
  · isplitl [Hwy]; · iexact Hwy
    isplitl [Hry]; · iexact Hry
    isplitl [HbR]; · iexact HbR
    isplitl [Hst]; · iexact Hst
    isplitl [Hks] <;> iassumption
  rw [wp_bind]
  iapply (tri_loop x κ c (ownStep c) (ownA x c) (ownB x c) (fun n => JG x c (22 + 2 * n)) (tri_own x κ c) _)
  isplitr; · iexact Hx
  isplitl [Hown Hg HJ]
  · isplitl [Hown]; · iexact Hown
    unfold JG
    isplitl [Hg]; · iexact Hg
    iexact HJ
  unfold JG
  iintro ⟨Hown, Hg, HJ⟩
  ihave Hown := (own_split x c) $$ Hown
  icases Hown with ⟨HownY, Hwst, Hws, Hwb⟩
  ihave Hws := (Entails.of_eq (fin16 (F := F) (fun t => wt c (.snd (.s t))))) $$ Hws
  icases Hws with ⟨Hwsl, Hwsh⟩
  ihave Hrs := (Entails.of_eq (fin16 (F := F) (fun t => wt c (.rcv (.s t))))) $$ Hrs
  icases Hrs with ⟨Hrsl, Hrsh⟩
  ihave Hgot := (got_join c) $$ [Hwsl Hrsl Hsv Hkw]
  · isplitl [Hwsl]; · iexact Hwsl
    isplitl [Hrsl]; · iexact Hrsl
    isplitl [Hsv] <;> iassumption
  rw [wp_bind]
  iapply (tri_loop x κ c (gotStep c) (gotA c) (gotB x c) (fun n => J c (54 + n)) (tri_got x κ c) _)
  isplitr; · iexact Hx
  isplitl [Hgot HJ]
  · isplitl [Hgot]; · iexact Hgot
    iexact HJ
  iintro ⟨Hgot, HJ⟩
  ihave Hgot := (got_split x c) $$ Hgot
  icases Hgot with ⟨HgotY, Hwsv, Hww⟩
  ihave Hdiag := (diag_join x c) $$ [Hwd Hrd HbRd Hsd]
  · isplitl [Hwd]; · iexact Hwd
    isplitl [Hrd]; · iexact Hrd
    isplitl [HbRd] <;> iassumption
  rw [wp_bind]
  iapply (tri_loop x κ c (diagStep c) (diagA x c) (diagB x c) (fun _ => JG x c 64) (tri_diag x κ c) _)
  isplitr; · iexact Hx
  isplitl [Hdiag Hg HJ]
  · isplitl [Hdiag]; · iexact Hdiag
    unfold JG
    isplitl [Hg]; · iexact Hg
    iexact HJ
  unfold JG
  iintro ⟨Hdiag, Hg, HJ⟩
  ihave Hdiag := (diag_split x c) $$ Hdiag
  icases Hdiag with ⟨HdiagY, Hwsd⟩
  ihave H1 := (join2 (P := fun i : Fin 6 => wt c (.snd (.s (hi i)))) (Q := fun i : Fin 6 => wt c (.rcv (.s (hi i)))) (fun _ => .rfl)) $$ [Hwsh Hrsh]
  · isplitl [Hwsh] <;> iassumption
  ihave H2 := (join2 (P := fun t : Fin 16 => wt c (.snd (.b t))) (Q := fun t : Fin 16 => wt c (.rcv (.b t))) (fun _ => .rfl)) $$ [Hwb Hrb]
  · isplitl [Hwb] <;> iassumption
  ihave H3 := (join2 (P := fun t : Fin 10 => wt c (.snd (.w t))) (Q := fun t : Fin 10 => wt c (.rcv (.w t))) (fun _ => .rfl)) $$ [Hww Hrw]
  · isplitl [Hww] <;> iassumption
  iapply (tri_phaseG x κ c Q)
  isplitr; · iexact Hx
  isplitl [H1 H2 H3 Hwst Hwsv Hwsd HJ]
  · isplitr [HJ]
    · isplitl [H1]; · iexact H1
      isplitl [H2]; · iexact H2
      isplitl [H3]; · iexact H3
      isplitl [Hwst]; · iexact Hwst
      isplitl [Hwsv] <;> iassumption
    · iexact HJ
  iintro ⟨HG, HJ⟩
  iapply Hk
  isplitl [Hbar Hvcp]; · isplitl [Hbar] <;> iassumption
  isplitl [Hin]; · iexact Hin
  isplitl [Hg]; · iexact Hg
  isplitl [HownY HgotY HdiagY]
  · isplitl [HownY]; · iexact HownY
    isplitl [HgotY] <;> iassumption
  isplitl [HG] <;> iassumption

end Cert.KernelIdeal.Tiled
end
end
-- ==== Proof.Buffers.lean ====
/-
# The buffers and their tiles

Before the body every buffer is cut into the tiles its copies read and write, some of them for the
neighbours; after it the tiles make up the buffers again, and the result's array holds what the
cores computed.
-/
module

public import proofs.«01_k».proof.Proof.Whole

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A part lent -/

/-- A slice of a memref with its contents, and the rest, which the slice makes whole again. -/
theorem lend (c : Dev nD) {sp : Space} {s : Shape} (m : Memref sig .tc sp s .f32) (q : PosShare TreeShare) (r : Rect s) (hr : ∀ a, r.stride a = 1)
    (X : s.Idx → Elt F .f32) :
    ownsTc c m q X ⊢ (iprop(ownsTc c (m.slice r hr) q (fun j => X (r.emb j)) ∗ (ownsTc c (m.slice r hr) q (fun j => X (r.emb j)) -∗ ownsTc c m q X)) : sProp 𝕄) := by
  iintro H
  ihave H := (owns_slice_split (c : Thread nD τ) m q r hr X) $$ H
  icases H with ⟨Hs, ⟨%f, %hf, Hr⟩⟩
  isplitl [Hs]; · iexact Hs
  iintro Hs
  ihave H := (owns_slice_join (c : Thread nD τ) m q r hr (fun j => X (r.emb j)) f) $$ [Hs Hr]
  · isplitl [Hs] <;> iassumption
  have e : r.overlay (m.view.read (Elt F) f) (fun j => X (r.emb j)) = X := by
    funext i
    by_cases hi : i ∈ r.set
    · obtain ⟨j, rfl⟩ := r.exists_idx_of_mem hi
      exact Rect.overlay_emb r _ _ j
    · rw [Rect.overlay_of_not_mem _ _ _ hi, hf]
  rw [e]
  iexact H

/-- An input: its two parts the body reads, and the wand that takes them back. -/
theorem lend2 (c : Dev nD) (m : Memref sig .tc .hbm S1024x1024 .f32) (A : Vec F S1024x1024 .f32) :
    ownsTc c m fullShare A ⊢ (iprop((ownsTc c (own256 m c) fullShare.left (ownRows A c) ∗ ownsTc c (diag96 m c) fullShare.right (diagRows A c))
      ∗ ((ownsTc c (own256 m c) fullShare.left (ownRows A c) ∗ ownsTc c (diag96 m c) fullShare.right (diagRows A c)) -∗ ownsTc c m fullShare A)) : sProp 𝕄) := by
  iintro H
  ihave H := (owns_halves (c : Thread nD τ) m fullShare A).1 $$ H
  icases H with ⟨Hl, Hr⟩
  ihave Hl := (lend c m fullShare.left (Rect.unit (s := S1024x1024) (k0_off1 c) S256x1024.size (k0_off1_inb c)) (fun _ => rfl) A) $$ Hl
  icases Hl with ⟨Hl, Kl⟩
  ihave Hr := (lend c m fullShare.right (Rect.unit (s := S1024x1024) (k0_off2 c) S96x1024.size (k0_off2_inb c)) (fun _ => rfl) A) $$ Hr
  icases Hr with ⟨Hr, Kr⟩
  isplitl [Hl Hr]
  · isplitl [Hl]; · iexact Hl
    iexact Hr
  iintro ⟨Hl, Hr⟩
  iapply (owns_halves (c : Thread nD τ) m fullShare A).2
  isplitl [Hl Kl]
  · iapply Kl; iexact Hl
  · iapply Kr; iexact Hr

/-! ## A buffer and its tiles -/

section Tiles

variable {T : Type} [Fintype T] [DecidableEq T] (c : Dev nD) {sp : Space} {M : ℕ} (m : Memref sig .tc sp ⟨2, ![M, 1024]⟩ .f32)
  (o : T → Fin 2 → ℕ) (ho : ∀ t a, o t a + S16x1024.size a ≤ (⟨2, ![M, 1024]⟩ : Shape).size a)

/-- A tile's rectangle, and the memref's tile. -/
abbrev rOf (t : T) : Rect (⟨2, ![M, 1024]⟩ : Shape) := Rect.unit (s := ⟨2, ![M, 1024]⟩) (o t) S16x1024.size (ho t)
abbrev tOf (t : T) : Memref sig .tc sp S16x1024 .f32 := m.slice (rOf o ho t) (fun _ => rfl)

variable (hd : ∀ t t', t ≠ t' → Disjoint (rOf o ho t).set (rOf o ho t').set)
  (hc : (Finset.univ : Finset T).biUnion (fun t => (rOf o ho t).set) = Finset.univ)

include hd hc

/-- A buffer at some contents is its tiles at some contents. -/
theorem cut : iprop(∃ X : (⟨2, ![M, 1024]⟩ : Shape).Idx → Elt F .f32, ownsTc c m fullShare X) ⊢ (bigSep Finset.univ fun t => iprop(∃ Y, ownsTc c (tOf m o ho t) fullShare Y) : sProp 𝕄) := by
  iintro ⟨%X, H⟩
  ihave H := (owns_rects (c : Thread nD τ) m fullShare (rOf o ho) (fun _ _ => rfl) hd hc X) $$ H
  have h : (bigSep Finset.univ fun t => owns (c : Thread nD τ) (m.slice (rOf o ho t) (fun _ => rfl)) fullShare (fun j => X ((rOf o ho t).emb j)))
      ⊢ (bigSep Finset.univ fun t => iprop(∃ Y, ownsTc c (tOf m o ho t) fullShare Y) : sProp 𝕄) :=
    map1 fun t => by iintro H; iexists _; iexact H
  iapply h; iexact H

/-- Contents given tile by tile are some whole contents' tiles. -/
theorem glue (Y : T → Vec F S16x1024 .f32) : ∃ X : (⟨2, ![M, 1024]⟩ : Shape).Idx → Elt F .f32, ∀ t j, X ((rOf o ho t).emb j) = Y t j := by
  have hex (i : (⟨2, ![M, 1024]⟩ : Shape).Idx) : ∃ tj : T × S16x1024.Idx, (rOf o ho tj.1).emb tj.2 = i := by
    obtain ⟨t, -, ht⟩ := Finset.mem_biUnion.mp (hc.symm ▸ Finset.mem_univ i)
    obtain ⟨j, hj⟩ := (rOf o ho t).exists_idx_of_mem ht
    exact ⟨(t, j), hj⟩
  refine ⟨fun i => Y (hex i).choose.1 (hex i).choose.2, fun t j => ?_⟩
  show Y (hex ((rOf o ho t).emb j)).choose.1 (hex ((rOf o ho t).emb j)).choose.2 = Y t j
  have h := (hex ((rOf o ho t).emb j)).choose_spec
  generalize (hex ((rOf o ho t).emb j)).choose = tj at h
  obtain ⟨t', j'⟩ := tj
  have ht : t' = t := by
    by_contra hne
    exact Finset.disjoint_left.mp (hd t' t hne) ((rOf o ho t').idx_mem j') (by rw [show (rOf o ho t').idx j' = (rOf o ho t).emb j from h]; exact (rOf o ho t).idx_mem j)
  subst ht
  exact congrArg (Y t') ((rOf o ho t').emb.injective h)

/-- Tiles make up a buffer. -/
theorem paste (X : (⟨2, ![M, 1024]⟩ : Shape).Idx → Elt F .f32) :
    (bigSep Finset.univ fun t => ownsTc c (tOf m o ho t) fullShare (fun j => X ((rOf o ho t).emb j)) : sProp 𝕄) ⊢ ownsTc c m fullShare X :=
  owns_of_rects (c : Thread nD τ) m fullShare (rOf o ho) (fun _ _ => rfl) hd hc X
theorem pasteAny (Y : T → Vec F S16x1024 .f32) :
    (bigSep Finset.univ fun t => ownsTc c (tOf m o ho t) fullShare (Y t) : sProp 𝕄) ⊢ iprop(∃ X, ownsTc c m fullShare X) := by
  obtain ⟨X, hX⟩ := glue o ho hd hc Y
  iintro H
  iexists X
  iapply (paste c m o ho hd hc X)
  rw [bigSep_congr (fun t _ => show ownsTc c (tOf m o ho t) fullShare (fun j => X ((rOf o ho t).emb j)) = (ownsTc c (tOf m o ho t) fullShare (Y t) : sProp 𝕄) from
    congrArg (fun Z => (ownsTc c (tOf m o ho t) fullShare Z : sProp 𝕄)) (funext (hX t)))]
  iexact H

end Tiles

variable (x : In F) (c : Dev nD)

/-! ## The result's tiles, as a core meets them -/

/-- Of the copies of tile `t` one goes along x and one along z. -/
theorem dirs (t : Fin 16) : ((RC.s t).dir = 0 ∧ (RC.b t).dir = 2) ∨ ((RC.s t).dir = 2 ∧ (RC.b t).dir = 0) := by revert t; decide

theorem regroup (A B C D : sProp 𝕄) : iprop(A ∗ B ∗ C ∗ D) = iprop(A ∗ (B ∗ C) ∗ D) := by
  have h₁ : iprop(A ∗ B ∗ C ∗ D) ⊢ iprop(A ∗ (B ∗ C) ∗ D) := by
    iintro ⟨H0, H1, H2, H3⟩
    isplitl [H0]; · iexact H0
    isplitl [H1 H2]; · isplitl [H1] <;> iassumption
    iexact H3
  have h₂ : iprop(A ∗ (B ∗ C) ∗ D) ⊢ iprop(A ∗ B ∗ C ∗ D) := by
    iintro ⟨H0, ⟨H1, H2⟩, H3⟩
    isplitl [H0]; · iexact H0
    isplitl [H1]; · iexact H1
    isplitl [H2] <;> iassumption
  exact equiv_iff.mp ⟨h₁, h₂⟩

/-- The result's tiles: the core's own, those of the two neighbours, and the diagonal group's. -/
theorem out_eq (Ψ : Fin 4 → Fin 16 → sProp 𝕄) :
    (bigSep Finset.univ fun y : Fin 4 × Fin 16 => Ψ y.1 y.2)
      = iprop((bigSep Finset.univ fun t : Fin 16 => Ψ (grp c) t)
        ∗ ((bigSep Finset.univ fun t : Fin 16 => Ψ (grp (pr c (RC.s t).dir)) t) ∗ bigSep Finset.univ fun t : Fin 16 => Ψ (grp (pr c (RC.b t).dir)) t)
        ∗ bigSep Finset.univ fun t : Fin 16 => Ψ (dgrp c) t) := by
  have h : iprop((bigSep Finset.univ fun t : Fin 16 => Ψ (grp (pr c (RC.s t).dir)) t) ∗ bigSep Finset.univ fun t : Fin 16 => Ψ (grp (pr c (RC.b t).dir)) t)
      = iprop((bigSep Finset.univ fun t : Fin 16 => Ψ (grp (pr c 0)) t) ∗ bigSep Finset.univ fun t : Fin 16 => Ψ (grp (pr c 2)) t) := by
    rw [← bigSep_sep', ← bigSep_sep']
    refine bigSep_congr fun t _ => ?_
    rcases dirs t with ⟨hs, hb⟩ | ⟨hs, hb⟩ <;> rw [hs, hb]
    exact equiv_iff.mp ⟨BI.sep_comm, BI.sep_comm⟩
  rw [h, bigSep_univ_prod, bigSep_univ_equiv (gsE c), fin4]
  exact regroup _ _ _ _

theorem w_dgrp (c : Dev nD) (t : Fin 10) : grp (pr (pr c (RC.w t).dir) (RC.s (lo t)).dir) = dgrp c := by revert c t; decide

/-! Where a neighbour's copy lands, as a tile of the result. -/
theorem dst_hi (n : Dev nD) (i : Fin 6) (X : Vec F S16x1024 .f32) : dstOwn c n (.s (hi i)) X = (ownsTc c (oT (grp n) (hi i)) fullShare X : sProp 𝕄) :=
  (dif_neg (show ¬ (hi i).val < 10 from by show ¬ 10 + i.val < 10; omega)).trans (by rw [oOwn_eq])
theorem dst_lo (n : Dev nD) (t : Fin 10) (X : Vec F S16x1024 .f32) : dstOwn c n (.s (lo t)) X = (ownsTc c (t160 bI t) fullShare X : sProp 𝕄) :=
  dif_pos t.isLt
theorem dst_b (n : Dev nD) (t : Fin 16) (X : Vec F S16x1024 .f32) : dstOwn c n (.b t) X = (ownsTc c (oT (grp n) t) fullShare X : sProp 𝕄) := by
  show ownsTc c (oOwn n t) fullShare X = _; rw [oOwn_eq]
theorem dst_w (t : Fin 10) (X : Vec F S16x1024 .f32) : dstOwn c (pr c (RC.w t).dir) (.w t) X = (ownsTc c (oT (dgrp c) (lo t)) fullShare X : sProp 𝕄) := by
  show ownsTc c (oGot (pr c (RC.w t).dir) t) fullShare X = _; rw [oGot_eq, w_dgrp]

/-! ## Before the body -/

/-- The buffers a core writes, at contents not chosen. -/
def scratch : sProp 𝕄 :=
  iprop(((∃ X, ownsTc c bP fullShare X) ∗ (∃ X, ownsTc c bR fullShare X) ∗ ∃ X, ownsTc c bY fullShare X)
    ∗ ((∃ X, ownsTc c bPd fullShare X) ∗ (∃ X, ownsTc c bRd fullShare X) ∗ ∃ X, ownsTc c bYd fullShare X)
    ∗ (∃ X, ownsTc c bV fullShare X) ∗ (∃ X, ownsTc c bVd fullShare X) ∗ ∃ X, ownsTc c bI fullShare X)

theorem cutOut : iprop(∃ X, ownsTc c aO fullShare X)
    ⊢ (iprop((bigSep Finset.univ fun t : Fin 16 => iprop(∃ Y, ownsTc c (oOwn c t) fullShare Y))
      ∗ (((bigSep Finset.univ fun t : Fin 10 => iprop(∃ Y, ownsTc c (oGot c t) fullShare Y))
        ∗ (bigSep Finset.univ fun i : Fin 6 => iprop(∃ X, dstOwn (F := F) c (pr c (RC.s (hi i)).dir) (.s (hi i)) X)))
        ∗ (bigSep Finset.univ fun t : Fin 16 => iprop(∃ X, dstOwn (F := F) c (pr c (RC.b t).dir) (.b t) X)))
      ∗ (bigSep Finset.univ fun t : Fin 10 => iprop(∃ X, dstOwn (F := F) c (pr c (RC.w t).dir) (.w t) X))
        ∗ (bigSep Finset.univ fun i : Fin 6 => iprop(∃ Y, ownsTc c (oDiag c i) fullShare Y))) : sProp 𝕄) := by
  refine (cut (T := Fin 4 × Fin 16) c aO (fun y => ![256 * y.1.val + 16 * y.2.val, 0]) (fun y => tileIn y.1 y.2) disjT coverT).trans (Entails.of_eq ?_)
  refine (out_eq c (fun g t => iprop(∃ Y, ownsTc c (oT g t) fullShare Y))).trans ?_
  rw [fin16 (fun t => iprop(∃ Y, ownsTc c (oT (grp (pr c (RC.s t).dir)) t) fullShare Y)), fin16 (fun t => iprop(∃ Y, ownsTc c (oT (dgrp c) t) fullShare Y))]
  simp only [oOwn_eq, oGot_eq, oDiag_eq, dst_hi, dst_b, dst_w]

/-- From the buffers, the tiles the body starts with and the places for the neighbours' copies. -/
theorem deal : iprop(scratch (F := F) c ∗ ∃ X, ownsTc c aO fullShare X)
    ⊢ (iprop(inBufs c ∗ (bigSep Finset.univ fun k : RC => iprop(∃ X, dstOwn (F := F) c (pr c k.dir) k X))
      ∗ ((bigSep Finset.univ fun t : Fin 16 => iprop(∃ v, ownsTc c (t256 bV t) fullShare v)) ∗ (bigSep Finset.univ fun t : Fin 16 => iprop(∃ Y, ownsTc c (oOwn c t) fullShare Y)))
      ∗ (bigSep Finset.univ fun t : Fin 10 => iprop(∃ Y, ownsTc c (oGot c t) fullShare Y))
      ∗ (bigSep Finset.univ fun i : Fin 6 => iprop(∃ v, ownsTc c (t96 bVd i) fullShare v)) ∗ (bigSep Finset.univ fun i : Fin 6 => iprop(∃ Y, ownsTc c (oDiag c i) fullShare Y))) : sProp 𝕄) := by
  rw [rc_eq, fin16 (fun t => iprop(∃ X, dstOwn (F := F) c (pr c (RC.s t).dir) (.s t) X))]
  simp only [dst_lo]
  unfold scratch inBufs
  iintro ⟨⟨⟨HP, HR, HY⟩, ⟨HPd, HRd, HYd⟩, HV, HVd, HI⟩, HO⟩
  ihave HO := (cutOut c) $$ HO
  icases HO with ⟨Hown, ⟨⟨Hgot, Hshi⟩, Hb⟩, Hw, Hdiag⟩
  ihave HY := (cut c bY (fun t : Fin 16 => ![16 * t.val, 0]) tileIn256 disj256 cover256) $$ HY
  ihave HV := (cut c bV (fun t : Fin 16 => ![16 * t.val, 0]) tileIn256 disj256 cover256) $$ HV
  ihave HYd := (cut c bYd (fun t : Fin 6 => ![16 * t.val, 0]) tileIn96 disj96 cover96) $$ HYd
  ihave HVd := (cut c bVd (fun t : Fin 6 => ![16 * t.val, 0]) tileIn96 disj96 cover96) $$ HVd
  ihave HI := (cut c bI (fun t : Fin 10 => ![16 * t.val, 0]) tileIn160 disj160 cover160) $$ HI
  isplitl [HP HR HPd HRd]
  · isplitl [HP HR]; · isplitl [HP] <;> iassumption
    isplitl [HPd] <;> iassumption
  isplitl [HY HYd HI Hshi Hb Hw]
  · isplitl [HY]; · iexact HY
    isplitl [HYd]; · iexact HYd
    isplitl [HI Hshi]
    · isplitl [HI]; · iexact HI
      iexact Hshi
    isplitl [Hb] <;> iassumption
  isplitl [HV Hown]
  · isplitl [HV]; · iexact HV
    iexact Hown
  isplitl [Hgot]; · iexact Hgot
  isplitl [HVd]; · iexact HVd
  iexact Hdiag

/-! ## After the body -/

/-- The core whose computation of tile `t` of group `g` ends up on core `c`. -/
def src (c : Dev nD) (g : Fin 4) (t : Fin 16) : Dev nD :=
  if g = dgrp c then (if t.val < 10 then pr (pr c 0) 2 else c) else if g = grp c then c else if g = grp (pr c 0) then pr c 0 else pr c 2
theorem src_own (c : Dev nD) (t : Fin 16) : src c (grp c) t = c := by revert c t; decide
theorem src_s (c : Dev nD) (t : Fin 16) : src c (grp (pr c (RC.s t).dir)) t = pr c (RC.s t).dir := by revert c t; decide
theorem src_b (c : Dev nD) (t : Fin 16) : src c (grp (pr c (RC.b t).dir)) t = pr c (RC.b t).dir := by revert c t; decide
theorem src_lo (c : Dev nD) (t : Fin 10) : src c (dgrp c) (lo t) = gotFrom (pr c (RC.w t).dir) t := by revert c t; decide
theorem src_hi (c : Dev nD) (i : Fin 6) : src c (dgrp c) (hi i) = c := by revert c i; decide

theorem outAt_exists : ∃ X : Vec F S1024x1024 .f32, ∀ (y : Fin 4 × Fin 16) (j : S16x1024.Idx), X ((rT y.1 y.2).emb j) = x.val (src c y.1 y.2) y.1 y.2 j :=
  glue (T := Fin 4 × Fin 16) (fun y => ![256 * y.1.val + 16 * y.2.val, 0]) (fun y => tileIn y.1 y.2) disjT coverT _
/-- The result on core `c`. -/
def outAt : Vec F S1024x1024 .f32 := (outAt_exists x c).choose
theorem outAt_tile (g : Fin 4) (t : Fin 16) (j : S16x1024.Idx) : outAt x c ((rT g t).emb j) = x.val (src c g t) g t j :=
  (outAt_exists x c).choose_spec (g, t) j

theorem pasteOut :
    iprop((bigSep Finset.univ fun t : Fin 16 => ownsTc c (oOwn c t) fullShare (x.val c (grp c) t))
      ∗ (((bigSep Finset.univ fun t : Fin 10 => ownsTc c (oGot c t) fullShare (x.cont c (.w t)))
        ∗ (bigSep Finset.univ fun i : Fin 6 => dstOwn c (pr c (RC.s (hi i)).dir) (.s (hi i)) (x.cont (pr c (RC.s (hi i)).dir) (.s (hi i)))))
        ∗ (bigSep Finset.univ fun t : Fin 16 => dstOwn c (pr c (RC.b t).dir) (.b t) (x.cont (pr c (RC.b t).dir) (.b t))))
      ∗ (bigSep Finset.univ fun t : Fin 10 => dstOwn c (pr c (RC.w t).dir) (.w t) (x.cont (pr c (RC.w t).dir) (.w t)))
        ∗ (bigSep Finset.univ fun i : Fin 6 => ownsTc c (oDiag c i) fullShare (x.val c (dgrp c) (hi i))))
      ⊢ (ownsTc c aO fullShare (outAt x c) : sProp 𝕄) := by
  refine (Entails.of_eq ?_).trans (paste (T := Fin 4 × Fin 16) c aO (fun y => ![256 * y.1.val + 16 * y.2.val, 0]) (fun y => tileIn y.1 y.2) disjT coverT (outAt x c))
  have e : (bigSep Finset.univ fun y : Fin 4 × Fin 16 => ownsTc c (oT y.1 y.2) fullShare (fun j => outAt x c ((rT y.1 y.2).emb j)) : sProp 𝕄)
      = bigSep Finset.univ fun y : Fin 4 × Fin 16 => ownsTc c (oT y.1 y.2) fullShare (x.val (src c y.1 y.2) y.1 y.2) :=
    bigSep_congr fun y _ => congrArg (fun Z => (ownsTc c (oT y.1 y.2) fullShare Z : sProp 𝕄)) (funext (outAt_tile x c y.1 y.2))
  refine Eq.trans ?_ e.symm
  refine Eq.trans ?_ (out_eq c (fun g t => ownsTc c (oT g t) fullShare (x.val (src c g t) g t))).symm
  rw [fin16 (fun t => ownsTc c (oT (grp (pr c (RC.s t).dir)) t) fullShare (x.val (src c (grp (pr c (RC.s t).dir)) t) (grp (pr c (RC.s t).dir)) t)),
    fin16 (fun t => ownsTc c (oT (dgrp c) t) fullShare (x.val (src c (dgrp c) t) (dgrp c) t))]
  simp only [oOwn_eq, oGot_eq, oDiag_eq, dst_hi, dst_b, dst_w, src_own, src_s, src_b, src_lo, src_hi, In.cont, w_dgrp]

end Cert.KernelIdeal.Tiled
end
end
-- ==== Proof.Ends.lean ====
/-
# A core's run of the body, from whole buffers to whole buffers

What a core holds when its body starts, cut into what the body's triple takes; what the triple gives
back, put together again: the result, the buffers, and every semaphore at zero.
-/
module

public import proofs.«01_k».proof.Proof.Buffers

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : In F) (κ : GSem nD τ sig → ℕ) (c : Dev nD)

/-! ## Before -/

/-- The duty tokens core `c` spends: of its sends, its local copies, its neighbours' receives and their barriers. -/
def duties : sProp 𝕄 :=
  iprop((bigSep Finset.univ fun k : RC => dutyTok ER (cell c (.snd k)) 0 0) ∗ (bigSep Finset.univ fun k : LC => dutyTok ER (cell c (.lcl k)) 0 0)
    ∗ (bigSep Finset.univ fun k : RC => dutyTok ER (cell (pr c k.dir) (.rcv k)) 0 0) ∗ bigSep Finset.univ fun j : Fin 3 => dutyTok ER (cell (pr c j) .bar) 0 j)
/-- The credits core `c` waits with: its barrier's, and its receives'. -/
def credits : sProp 𝕄 :=
  iprop(cred (tallyAt (cell c .bar) () 3) ∗ bigSep Finset.univ fun k : RC => cred (tallyAt (cell c (.rcv k)) () N))
/-- Core `c`'s barrier cell, open, and its neighbours'. -/
def barOpen : sProp 𝕄 :=
  iprop(atPos ER (cell c .bar) 0 ∅ 0 ∗ bigSep Finset.univ fun j : Fin 3 => reached ER (cell (pr c j) .bar) 0)
/-- Core `c`'s other cells, open. -/
def cellsOpen : sProp 𝕄 := bigSep Finset.univ fun k : OK => iprop(atPos ER (cell c k.ck) 0 ∅ 0 ∗ reached ER (cell c k.ck) 0)

/-- The whole arrays of core `c`. -/
def arrays : sProp 𝕄 := iprop(ownsTc c aP fullShare (x.p c) ∗ ownsTc c aR fullShare (x.r c))

/-- What core `c` starts the body with. -/
def startA : sProp 𝕄 :=
  iprop(arrays x c ∗ ownsTc c aG fullShare (x.g c) ∗ (scratch c ∗ ∃ X, ownsTc c aO fullShare X)
    ∗ cellsOpen c ∗ barOpen c ∗ duties c ∗ credits c ∗ ∃ W, owes (c : Thread nD τ) (O₀ c) W)

/-- The two inputs' parts, and the wands back. -/
def back : sProp 𝕄 :=
  iprop(inputs x c -∗ arrays x c)

theorem lendBoth : arrays x c ⊢ iprop(inputs x c ∗ back x c) := by
  unfold back arrays inputs
  iintro ⟨HP, HR⟩
  ihave HP := (lend2 c aP (x.p c)) $$ HP
  icases HP with ⟨⟨HP1, HP2⟩, KP⟩
  ihave HR := (lend2 c aR (x.r c)) $$ HR
  icases HR with ⟨⟨HR1, HR2⟩, KR⟩
  isplitl [HP1 HP2 HR1 HR2]
  · isplitl [HP1 HR1]; · isplitl [HP1] <;> iassumption
    isplitl [HP2] <;> iassumption
  iintro ⟨⟨HP1, HR1⟩, HP2, HR2⟩
  isplitl [HP1 HP2 KP]
  · iapply KP; isplitl [HP1] <;> iassumption
  · iapply KR; isplitl [HR1] <;> iassumption

/-- The cells, kind by kind. -/
theorem cellsOpen_eq : cellsOpen (F := F) c
    = iprop((bigSep Finset.univ fun k : RC => iprop(atPos ER (cell c (.snd k)) 0 ∅ 0 ∗ reached ER (cell c (.snd k)) 0))
      ∗ (bigSep Finset.univ fun k : RC => iprop(atPos ER (cell c (.rcv k)) 0 ∅ 0 ∗ reached ER (cell c (.rcv k)) 0))
      ∗ bigSep Finset.univ fun k : LC => iprop(atPos ER (cell c (.lcl k)) 0 ∅ 0 ∗ reached ER (cell c (.lcl k)) 0)) := by
  unfold cellsOpen
  rw [bigSep_univ_sum, bigSep_univ_sum]
  rfl

/-- A copy's duty tokens with its send cell. -/
theorem mkKit0 : iprop((bigSep Finset.univ fun k : RC => iprop(atPos ER (cell c (.snd k)) 0 ∅ 0 ∗ reached ER (cell c (.snd k)) 0))
      ∗ (bigSep Finset.univ fun k : RC => dutyTok ER (cell c (.snd k)) 0 0) ∗ (bigSep Finset.univ fun k : RC => dutyTok ER (cell (pr c k.dir) (.rcv k)) 0 0))
    ⊢ bigSep Finset.univ (kit0 (F := F) c) := by
  simp only [← bigSep_sep']
  refine map1 fun k => ?_
  unfold kit0 tok
  iintro ⟨⟨Ha, Hr⟩, Ht, Hd⟩
  isplitr [Hd]
  · isplitl [Ht]; · iexact Ht
    isplitl [Hr] <;> iassumption
  · iexact Hd

theorem mkTok : iprop((bigSep Finset.univ fun k : LC => iprop(atPos ER (cell c (.lcl k)) 0 ∅ 0 ∗ reached ER (cell c (.lcl k)) 0))
      ∗ (bigSep Finset.univ fun k : LC => dutyTok ER (cell c (.lcl k)) 0 0))
    ⊢ bigSep Finset.univ fun k : LC => (tok c (.lcl k) : sProp 𝕄) := by
  refine join2 fun k => ?_
  unfold tok
  iintro ⟨⟨Ha, Hr⟩, Ht⟩
  isplitl [Ht]; · iexact Ht
  isplitl [Hr] <;> iassumption

/-- The receive cells may be waited on, and the neighbours are told they are open, where their copies are to land. -/
theorem mkRcv : iprop((bigSep Finset.univ fun k : RC => iprop(atPos ER (cell c (.rcv k)) 0 ∅ 0 ∗ reached ER (cell c (.rcv k)) 0))
      ∗ (bigSep Finset.univ fun k : RC => cred (tallyAt (cell c (.rcv k)) () N)) ∗ (bigSep Finset.univ fun k : RC => iprop(∃ X, dstOwn (F := F) c (pr c k.dir) k X)))
    ⊢ iprop((bigSep Finset.univ fun k : RC => wt c (.rcv k))
      ∗ (bigSep Finset.univ fun k : RC => iprop((∃ X, dstOwn (F := F) c (pr c k.dir) k X) ∗ reached ER (cell c (.rcv k)) 0))) := by
  simp only [← bigSep_sep']
  refine map1 fun k => ?_
  unfold wt
  iintro ⟨⟨Ha, Hr⟩, Hc, Hd⟩
  isplitl [Ha Hc]
  · isplitl [Hc]; · iexact Hc
    iexact Ha
  isplitl [Hd] <;> iassumption

theorem mkSig : iprop((bigSep Finset.univ fun j : Fin 3 => dutyTok ER (cell (pr c j) .bar) 0 j) ∗ (bigSep Finset.univ fun j : Fin 3 => reached ER (cell (pr c j) .bar) 0)
      ∗ (bigSep Finset.univ fun j : Fin 3 => give (F := F) c j))
    ⊢ bigSep Finset.univ fun j : Fin 3 => sig1 (F := F) c j := by
  simp only [← bigSep_sep']
  exact map1 fun k => .rfl

theorem start_bodyA : startA x c ⊢ iprop(bodyA x c ∗ back x c) := by
  unfold startA
  rw [cellsOpen_eq]
  unfold barOpen duties credits
  iintro ⟨Harr, Hg, Hbuf, ⟨Hsnd, Hrcv, Hlcl⟩, ⟨Hbar, Hbr⟩, ⟨Hds, Hdl, Hdr, Hdb⟩, ⟨Hcb, Hcr⟩, HO⟩
  ihave Harr := (lendBoth x c) $$ Harr
  icases Harr with ⟨Hin, Hback⟩
  ihave Hbuf := (deal c) $$ Hbuf
  icases Hbuf with ⟨Hib, Hgv, ⟨HV, Hoo⟩, Hog, HVd, Hod⟩
  ihave Hk := (mkKit0 c) $$ [Hsnd Hds Hdr]
  · isplitl [Hsnd]; · iexact Hsnd
    isplitl [Hds] <;> iassumption
  ihave Hl := (mkTok c) $$ [Hlcl Hdl]
  · isplitl [Hlcl] <;> iassumption
  ihave Hl := (Entails.of_eq (lc_eq (F := F) (fun k => tok c (.lcl k)))) $$ Hl
  icases Hl with ⟨Hcp, Hst, Hsd, Hsv⟩
  ihave Hr := (mkRcv c) $$ [Hrcv Hcr Hgv]
  · isplitl [Hrcv]; · iexact Hrcv
    isplitl [Hcr] <;> iassumption
  icases Hr with ⟨Hw, Hgv⟩
  ihave Hgv := (Entails.of_eq (gives_eq (F := F) c).symm) $$ Hgv
  ihave Hs := (mkSig c) $$ [Hdb Hbr Hgv]
  · isplitl [Hdb]; · iexact Hdb
    isplitl [Hbr] <;> iassumption
  have hst : iprop((bigSep Finset.univ fun t : Fin 16 => iprop(∃ v, ownsTc c (t256 bV t) fullShare v)) ∗ (bigSep Finset.univ fun t : Fin 16 => tok c (.lcl (.st t)))
      ∗ (bigSep Finset.univ fun t : Fin 16 => iprop(∃ Y, ownsTc c (oOwn c t) fullShare Y))) ⊢ (bigSep Finset.univ (stPre c) : sProp 𝕄) := by
    simp only [← bigSep_sep']; exact map1 fun _ => .rfl
  have hsv : iprop((bigSep Finset.univ fun t : Fin 10 => tok c (.lcl (.sv t)))
      ∗ (bigSep Finset.univ fun t : Fin 10 => iprop(∃ Y, ownsTc c (oGot c t) fullShare Y))) ⊢ (bigSep Finset.univ (svPre c) : sProp 𝕄) := by
    simp only [← bigSep_sep']; exact map1 fun _ => .rfl
  have hsd : iprop((bigSep Finset.univ fun i : Fin 6 => iprop(∃ v, ownsTc c (t96 bVd i) fullShare v)) ∗ (bigSep Finset.univ fun i : Fin 6 => tok c (.lcl (.sd i)))
      ∗ (bigSep Finset.univ fun i : Fin 6 => iprop(∃ Y, ownsTc c (oDiag c i) fullShare Y))) ⊢ (bigSep Finset.univ (sdPre c) : sProp 𝕄) := by
    simp only [← bigSep_sep']; exact map1 fun _ => .rfl
  ihave Hst := hst $$ [HV Hst Hoo]
  · isplitl [HV]; · iexact HV
    isplitl [Hst] <;> iassumption
  ihave Hsv := hsv $$ [Hsv Hog]
  · isplitl [Hsv] <;> iassumption
  ihave Hsd := hsd $$ [HVd Hsd Hod]
  · isplitl [HVd]; · iexact HVd
    isplitl [Hsd] <;> iassumption
  unfold bodyA
  isplitr [Hback]
  · isplitl [Hcp Hin Hib Hcb Hbar Hs HO]
    · isplitl [Hcp]; · iexact Hcp
      isplitl [Hin]; · iexact Hin
      isplitl [Hib]; · iexact Hib
      isplitl [Hcb Hbar]; · isplitl [Hcb] <;> iassumption
      isplitl [Hs] <;> iassumption
    isplitl [Hk]; · iexact Hk
    isplitl [Hw]; · iexact Hw
    isplitl [Hg]; · iexact Hg
    isplitl [Hst]; · iexact Hst
    isplitl [Hsv] <;> iassumption
  · iexact Hback

/-! ## After -/

/-- Every semaphore of core `c` but the barrier at zero, kind by kind. -/
def zeros : sProp 𝕄 :=
  iprop((bigSep Finset.univ fun k : RC => semVal (cell c (.snd k)) 0) ∗ (bigSep Finset.univ fun k : RC => semVal (cell c (.rcv k)) 0)
    ∗ bigSep Finset.univ fun k : LC => semVal (cell c (.lcl k)) 0)

/-- What core `c` ends the body with. -/
def endB : sProp 𝕄 :=
  iprop(arrays x c ∗ ownsTc c aG fullShare (x.g c) ∗ (scratch c ∗ ownsTc c aO fullShare (outAt x c))
    ∗ zeros c ∗ semVal (cell c .bar) 0 ∗ J c 64)

/-- From the own group's tiles: counters, tiles of four buffers, tiles of the result. -/
theorem end_own :
    iprop(bigSep Finset.univ (ownY x c) ∗ (bigSep Finset.univ fun t : Fin 16 => lgot x c (.st t)) ∗ (bigSep Finset.univ fun t : Fin 16 => rgot x c (.b t)))
      ⊢ iprop(((bigSep Finset.univ fun t : Fin 16 => semVal (cell c (.snd (.y t))) 0) ∗ (bigSep Finset.univ fun t : Fin 16 => semVal (cell c (.rcv (.y t))) 0)
          ∗ (bigSep Finset.univ fun t : Fin 16 => semVal (cell c (.lcl (.st t))) 0)
          ∗ (bigSep Finset.univ fun t : Fin 16 => semVal (cell c (.snd (.b t))) 0) ∗ (bigSep Finset.univ fun t : Fin 16 => semVal (cell c (.rcv (.b t))) 0))
        ∗ ((bigSep Finset.univ fun t : Fin 16 => ownsTc c (t256 bP t) fullShare (rows (x.p c) (grp c) t))
          ∗ (bigSep Finset.univ fun t : Fin 16 => ownsTc c (t256 bY t) fullShare (rows (x.p (pr c 1)) (grp c) t))
          ∗ (bigSep Finset.univ fun t : Fin 16 => ownsTc c (t256 bR t) fullShare (rows (x.r c) (grp c) t)))
        ∗ ((bigSep Finset.univ fun t : Fin 16 => ownsTc c (t256 bV t) fullShare.left (x.val c (grp c) t))
          ∗ (bigSep Finset.univ fun t : Fin 16 => ownsTc c (t256 bV t) fullShare.right.right (x.val c (grp c) t)))
        ∗ (bigSep Finset.univ fun t : Fin 16 => ownsTc c (oOwn c t) fullShare (x.val c (grp c) t))
          ∗ (bigSep Finset.univ fun t : Fin 16 => dstOwn c (pr c (RC.b t).dir) (.b t) (x.cont (pr c (RC.b t).dir) (.b t)))) := by
  simp only [← bigSep_sep']
  refine map1 fun t => ?_
  unfold ownY lgot rgot
  dsimp only [In.lclPay, srcOwn, In.cont]
  iintro ⟨⟨⟨S1, S2⟩, HP, HY, HR⟩, ⟨S3, Ho, Hl⟩, ⟨S4, Hb⟩, S5, Hd⟩
  isplitl [S1 S2 S3 S4 S5]
  · isplitl [S1]; · iexact S1
    isplitl [S2]; · iexact S2
    isplitl [S3]; · iexact S3
    isplitl [S4] <;> iassumption
  isplitl [HP HY HR]
  · isplitl [HP]; · iexact HP
    isplitl [HY] <;> iassumption
  isplitl [Hl Hb]; · isplitl [Hl] <;> iassumption
  isplitl [Ho] <;> iassumption

/-- From the tiles received and passed on. -/
theorem end_got :
    iprop(bigSep Finset.univ (gotY x c) ∗ (bigSep Finset.univ fun t : Fin 10 => lgot x c (.sv t)) ∗ (bigSep Finset.univ fun t : Fin 10 => rgot x c (.w t)))
      ⊢ iprop(((bigSep Finset.univ fun t : Fin 10 => semVal (cell c (.snd (.s (lo t)))) 0) ∗ (bigSep Finset.univ fun t : Fin 10 => semVal (cell c (.rcv (.s (lo t)))) 0)
          ∗ (bigSep Finset.univ fun t : Fin 10 => semVal (cell c (.lcl (.sv t))) 0)
          ∗ (bigSep Finset.univ fun t : Fin 10 => semVal (cell c (.snd (.w t))) 0) ∗ (bigSep Finset.univ fun t : Fin 10 => semVal (cell c (.rcv (.w t))) 0))
        ∗ (bigSep Finset.univ fun t : Fin 10 => ownsTc c (t256 bV (lo t)) fullShare.right.left (x.val c (grp c) (lo t)))
        ∗ ((bigSep Finset.univ fun t : Fin 10 => ownsTc c (t160 bI t) fullShare (x.cont c (.w t))))
        ∗ (bigSep Finset.univ fun t : Fin 10 => ownsTc c (oGot c t) fullShare (x.cont c (.w t)))
          ∗ (bigSep Finset.univ fun t : Fin 10 => dstOwn c (pr c (RC.w t).dir) (.w t) (x.cont (pr c (RC.w t).dir) (.w t)))) := by
  simp only [← bigSep_sep']
  refine map1 fun t => ?_
  unfold gotY lgot rgot
  dsimp only [In.lclPay, srcOwn]
  iintro ⟨⟨⟨S1, S2⟩, HV⟩, ⟨S3, Ho, Hl⟩, ⟨S4, Hr⟩, S5, Hd⟩
  isplitl [S1 S2 S3 S4 S5]
  · isplitl [S1]; · iexact S1
    isplitl [S2]; · iexact S2
    isplitl [S3]; · iexact S3
    isplitl [S4] <;> iassumption
  isplitl [HV]; · iexact HV
  isplitl [Hl Hr]
  · iapply (owns_halves (c : Thread nD τ) (t160 bI t) fullShare (x.cont c (.w t))).2
    isplitl [Hl] <;> iassumption
  isplitl [Ho] <;> iassumption

/-- From the last six tiles. -/
theorem end_hi :
    iprop((bigSep Finset.univ fun i : Fin 6 => rgot x c (.s (hi i))) ∗ bigSep Finset.univ (diagY x c) ∗ (bigSep Finset.univ fun i : Fin 6 => lgot x c (.sd i)))
      ⊢ iprop(((bigSep Finset.univ fun i : Fin 6 => semVal (cell c (.snd (.s (hi i)))) 0) ∗ (bigSep Finset.univ fun i : Fin 6 => semVal (cell c (.rcv (.s (hi i)))) 0)
          ∗ (bigSep Finset.univ fun i : Fin 6 => semVal (cell c (.lcl (.sd i))) 0)
          ∗ (bigSep Finset.univ fun i : Fin 6 => semVal (cell c (.snd (.d i))) 0) ∗ (bigSep Finset.univ fun i : Fin 6 => semVal (cell c (.rcv (.d i))) 0))
        ∗ (bigSep Finset.univ fun i : Fin 6 => ownsTc c (t256 bV (hi i)) fullShare.right.left (x.val c (grp c) (hi i)))
        ∗ ((bigSep Finset.univ fun i : Fin 6 => ownsTc c (t96 bPd i) fullShare (rows (x.p c) (dgrp c) (hi i)))
          ∗ (bigSep Finset.univ fun i : Fin 6 => ownsTc c (t96 bYd i) fullShare (rows (x.p (pr c 1)) (dgrp c) (hi i)))
          ∗ (bigSep Finset.univ fun i : Fin 6 => ownsTc c (t96 bRd i) fullShare (rows (x.r c) (dgrp c) (hi i)))
          ∗ (bigSep Finset.univ fun i : Fin 6 => ownsTc c (t96 bVd i) fullShare (x.val c (dgrp c) (hi i))))
        ∗ (bigSep Finset.univ fun i : Fin 6 => dstOwn c (pr c (RC.s (hi i)).dir) (.s (hi i)) (x.cont (pr c (RC.s (hi i)).dir) (.s (hi i))))
          ∗ (bigSep Finset.univ fun i : Fin 6 => ownsTc c (oDiag c i) fullShare (x.val c (dgrp c) (hi i)))) := by
  simp only [← bigSep_sep']
  refine map1 fun t => ?_
  unfold diagY lgot rgot
  dsimp only [In.lclPay, srcOwn, In.cont]
  iintro ⟨⟨⟨S1, HV⟩, S2, Hd⟩, ⟨⟨S3, S4⟩, HP, HY, HR⟩, S5, Ho, Hv⟩
  isplitl [S1 S2 S3 S4 S5]
  · isplitl [S1]; · iexact S1
    isplitl [S2]; · iexact S2
    isplitl [S5]; · iexact S5
    isplitl [S3] <;> iassumption
  isplitl [HV]; · iexact HV
  isplitl [HP HY HR Hv]
  · isplitl [HP]; · iexact HP
    isplitl [HY]; · iexact HY
    isplitl [HR] <;> iassumption
  isplitl [Hd] <;> iassumption

/-- The three shares of the computed tiles make up their buffer. -/
theorem end_V :
    iprop((bigSep Finset.univ fun t : Fin 16 => ownsTc c (t256 bV t) fullShare.left (x.val c (grp c) t))
        ∗ (bigSep Finset.univ fun t : Fin 16 => ownsTc c (t256 bV t) fullShare.right.left (x.val c (grp c) t))
        ∗ (bigSep Finset.univ fun t : Fin 16 => ownsTc c (t256 bV t) fullShare.right.right (x.val c (grp c) t)))
      ⊢ (iprop(∃ X, ownsTc c bV fullShare X) : sProp 𝕄) := by
  refine BIBase.Entails.trans ?_ (pasteAny c bV (fun t : Fin 16 => ![16 * t.val, 0]) tileIn256 disj256 cover256 (fun t => x.val c (grp c) t))
  simp only [← bigSep_sep']
  refine map1 fun t => ?_
  iintro ⟨H1, H2, H3⟩
  iapply (owns_halves (c : Thread nD τ) (t256 bV t) fullShare (x.val c (grp c) t)).2
  isplitl [H1]; · iexact H1
  iapply (owns_halves (c : Thread nD τ) (t256 bV t) fullShare.right (x.val c (grp c) t)).2
  isplitl [H2] <;> iassumption

theorem bodyB_end : iprop(bodyB x c ∗ back x c) ⊢ endB x c := by
  unfold bodyB endB
  iintro ⟨⟨⟨Hbar, Hcp⟩, Hin, Hg, ⟨HoY, HgY, HdY⟩, ⟨Hhi, Hb, Hw, Hst, Hsv, Hsd⟩, HJ⟩, Hback⟩
  ihave H1 := (end_own x c) $$ [HoY Hst Hb]
  · isplitl [HoY]; · iexact HoY
    isplitl [Hst] <;> iassumption
  icases H1 with ⟨⟨Sy1, Sy2, Sst, Sb1, Sb2⟩, ⟨HP, HY, HR⟩, ⟨HVl, HVr⟩, Ho, Hdb⟩
  ihave H2 := (end_got x c) $$ [HgY Hsv Hw]
  · isplitl [HgY]; · iexact HgY
    isplitl [Hsv] <;> iassumption
  icases H2 with ⟨⟨Ssl1, Ssl2, Ssv, Sw1, Sw2⟩, HVlo, HI, Hog, Hdw⟩
  ihave H3 := (end_hi x c) $$ [Hhi HdY Hsd]
  · isplitl [Hhi]; · iexact Hhi
    isplitl [HdY] <;> iassumption
  icases H3 with ⟨⟨Ssh1, Ssh2, Ssd, Sd1, Sd2⟩, HVhi, ⟨HPd, HYd, HRd, HVd⟩, Hdhi, Hod⟩
  ihave HVm := (Entails.of_eq (fin16 (F := F) (fun t => ownsTc c (t256 bV t) fullShare.right.left (x.val c (grp c) t))).symm) $$ [HVlo HVhi]
  · isplitl [HVlo] <;> iassumption
  ihave HV := (end_V x c) $$ [HVl HVm HVr]
  · isplitl [HVl]; · iexact HVl
    isplitl [HVm] <;> iassumption
  ihave HP := (pasteAny c bP (fun t : Fin 16 => ![16 * t.val, 0]) tileIn256 disj256 cover256 _) $$ HP
  ihave HY := (pasteAny c bY (fun t : Fin 16 => ![16 * t.val, 0]) tileIn256 disj256 cover256 _) $$ HY
  ihave HR := (pasteAny c bR (fun t : Fin 16 => ![16 * t.val, 0]) tileIn256 disj256 cover256 _) $$ HR
  ihave HPd := (pasteAny c bPd (fun t : Fin 6 => ![16 * t.val, 0]) tileIn96 disj96 cover96 _) $$ HPd
  ihave HYd := (pasteAny c bYd (fun t : Fin 6 => ![16 * t.val, 0]) tileIn96 disj96 cover96 _) $$ HYd
  ihave HRd := (pasteAny c bRd (fun t : Fin 6 => ![16 * t.val, 0]) tileIn96 disj96 cover96 _) $$ HRd
  ihave HVd := (pasteAny c bVd (fun t : Fin 6 => ![16 * t.val, 0]) tileIn96 disj96 cover96 _) $$ HVd
  ihave HI := (pasteAny c bI (fun t : Fin 10 => ![16 * t.val, 0]) tileIn160 disj160 cover160 _) $$ HI
  ihave HO := (pasteOut x c) $$ [Ho Hog Hdhi Hdb Hdw Hod]
  · isplitl [Ho]; · iexact Ho
    isplitl [Hog Hdhi Hdb]
    · isplitl [Hog Hdhi]; · isplitl [Hog] <;> iassumption
      iexact Hdb
    isplitl [Hdw] <;> iassumption
  ihave Ss1 := (Entails.of_eq (fin16 (F := F) (fun t => semVal (cell c (.snd (.s t))) 0)).symm) $$ [Ssl1 Ssh1]
  · isplitl [Ssl1] <;> iassumption
  ihave Ss2 := (Entails.of_eq (fin16 (F := F) (fun t => semVal (cell c (.rcv (.s t))) 0)).symm) $$ [Ssl2 Ssh2]
  · isplitl [Ssl2] <;> iassumption
  isplitl [Hin Hback]
  · unfold back; iapply Hback; iexact Hin
  isplitl [Hg]; · iexact Hg
  isplitl [HP HR HY HPd HYd HRd HV HVd HI HO]
  · isplitr [HO]
    · unfold scratch
      isplitl [HP HR HY]
      · isplitl [HP]; · iexact HP
        isplitl [HR] <;> iassumption
      isplitl [HPd HYd HRd]
      · isplitl [HPd]; · iexact HPd
        isplitl [HRd] <;> iassumption
      isplitl [HV]; · iexact HV
      isplitl [HVd] <;> iassumption
    · iexact HO
  isplitl [Sy1 Sy2 Sst Sb1 Sb2 Ss1 Ss2 Ssv Sw1 Sw2 Ssd Sd1 Sd2 Hcp]
  · unfold zeros
    rw [rc_eq (fun k => semVal (cell c (.snd k)) 0), rc_eq (fun k => semVal (cell c (.rcv k)) 0), lc_eq (fun k => semVal (cell c (.lcl k)) 0)]
    isplitl [Sy1 Sd1 Ss1 Sb1 Sw1]
    · isplitl [Sy1]; · iexact Sy1
      isplitl [Sd1]; · iexact Sd1
      isplitl [Ss1]; · iexact Ss1
      isplitl [Sb1] <;> iassumption
    isplitl [Sy2 Sd2 Ss2 Sb2 Sw2]
    · isplitl [Sy2]; · iexact Sy2
      isplitl [Sd2]; · iexact Sd2
      isplitl [Ss2]; · iexact Ss2
      isplitl [Sb2] <;> iassumption
    isplitl [Hcp]; · iexact Hcp
    isplitl [Sst]; · iexact Sst
    isplitl [Ssd] <;> iassumption
  isplitl [Hbar] <;> iassumption

/-- The body's run on a core, whole buffers to whole buffers. -/
theorem tri_core : x.tri κ c (startA x c) body (endB x c) :=
  tri_conseq x κ c (start_bodyA x c) (bodyB_end x c) (tri_frame x κ c (R := back x c) (tri_body x κ c))

end Cert.KernelIdeal.Tiled
end
end
-- ==== Proof.ProgEq.lean ====
/-
# The printed body is the tiled program

Both sides are walked operation by operation: each printed operation is the tiled program's, and what
follows it is compared next.
-/
module

public import proofs.«01_k».proof.Proof.Prog

@[expose] public section

noncomputable section

namespace Cert.KernelIdeal.Tiled

open Cert.KernelIdeal Cert.KernelIdeal.Gen
open Idealize.ShloMosaic Idealize.ShloMosaic.TcCoe
open Idealize.SL Idealize.SL.Sem

variable {F : FTy → Type} [FloatOps F]

/-- Two programs that begin with the same operation and go on alike are equal. -/
theorem op_eq {E : Type → Type} {α β : Type} {e e' : E β} {k k' : β → Prog E α} (he : e = e') (hk : ∀ x, k x = k' x) :
    Prog.op e k = Prog.op e' k' := by rw [he, funext hk]

set_option smartUnfolding false in
set_option maxRecDepth 65536 in
set_option maxHeartbeats 4000000 in
/-- The printed body, on the buffers the kernel is launched with, is the tiled program. -/
theorem body_eq (t : Fin cfg0.N) : Gen.bodyAt0 (F := F) t = body := by
  unfold Gen.bodyAt0
  rw [cc0_body_eq_skeleton]
  refine op_eq ?_ (fun d => ?_)
  · rfl
  repeat
    refine op_eq ?_ (fun _ => ?_)
    · rfl
  rfl

end Cert.KernelIdeal.Tiled
end
end
-- ==== Proof.Region.lean ====
/-
# The region

The kernel's region as the launch takes it: what enters it, what leaves it, the body's obligation at
its one point, and the state of every unscoped buffer before and after.
-/
module

public import proofs.«01_k».proof.Proof.Ends
public import proofs.«01_k».proof.Proof.ProgEq
public import proofs.«01_k».proof.Proof.Gen.KernelIdeal.Frame
public import Idealize.ShloMosaic.Lib.Rounds.Family
public import Idealize.ShloMosaic.Lib.Pipeline.RegionTalk

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers before and after -/

def V₀ (c : Dev nD) : Valuation τ sig (Elt F) := fun b => m (c, b)
/-- After the two reshapes. -/
def V₁ (c : Dev nD) : Valuation τ sig (Elt F) := StableHlo.after hostOps0 (V₀ m c)

/-- What the region reads. -/
def xIn : In F where
  p c := V₁ m c (Proc.devRef .tc main_v1)
  r c := V₁ m c (Proc.devRef .tc main_arg1)
  g c := Gen.iblk m c 0 t0_0

/-- After the region: the result in its array. -/
def V₂ (c : Dev nD) : Valuation τ sig (Elt F) := Function.update (V₁ m c) (Proc.devRef .tc main_v3) (outAt (xIn m) c)
theorem V₂_v3 (c : Dev nD) : V₂ m c (Proc.devRef .tc main_v3) = outAt (xIn m) c := Function.update_self ..
theorem V₂_ne (c : Dev nD) {b : DevRef τ sig} (h : b ≠ Proc.devRef .tc main_v3) : V₂ m c b = V₁ m c b := Function.update_of_ne h ..

def bufs : Finset (DevRef τ sig) := (StableHlo.tcRefs τ sig).filter fun b => ¬ b.isScoped
/-- Those but the array the window stages. -/
def rest : Finset (DevRef τ sig) := bufs.erase (Proc.devRef .tc main_v2)

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arrRefs_eq : Pipeline.arrRefs (τ := τ) (pcfgs (F := F) 0).spec = {Proc.devRef .tc main_v2} := by
  show Pipeline.arrRefs (τ := τ) spec0 = _
  decide

theorem bufs_split (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) rest W) := by
  rw [arrRefs_eq]
  unfold StableHlo.held rest
  rw [bigSep_singleton]
  exact bigSep_erase (by decide)

/-- The whole buffers beside the window's array, one by one. -/
theorem restBufs_eq (c : Dev nD) (W : Valuation τ sig (Elt F)) : (StableHlo.held (c : Thread nD τ) rest W : sProp 𝕄)
    = iprop(ownsTc c (Memref.whole main_arg0) fullShare (W (Proc.devRef .tc main_arg0))
      ∗ ownsTc c (Memref.whole main_arg2) fullShare (W (Proc.devRef .tc main_arg2))
      ∗ ownsTc c aP fullShare (W (Proc.devRef .tc main_v1)) ∗ ownsTc c aR fullShare (W (Proc.devRef .tc main_arg1))
      ∗ ownsTc c aO fullShare (W (Proc.devRef .tc main_v3))) := by
  rw [show (ownsTc c (Memref.whole main_arg0) fullShare (W (Proc.devRef .tc main_arg0)) : sProp 𝕄) = _ from owns_whole ..,
    show (ownsTc c (Memref.whole main_arg2) fullShare (W (Proc.devRef .tc main_arg2)) : sProp 𝕄) = _ from owns_whole ..,
    show (ownsTc c aP fullShare (W (Proc.devRef .tc main_v1)) : sProp 𝕄) = _ from owns_whole ..,
    show (ownsTc c aR fullShare (W (Proc.devRef .tc main_arg1)) : sProp 𝕄) = _ from owns_whole ..,
    show (ownsTc c aO fullShare (W (Proc.devRef .tc main_v3)) : sProp 𝕄) = _ from owns_whole ..]
  unfold StableHlo.held
  rw [bigSep_eq_bigSepL_of_eq [Proc.devRef .tc main_arg0, Proc.devRef .tc main_arg2, Proc.devRef .tc main_v1, Proc.devRef .tc main_arg1, Proc.devRef .tc main_v3] (by decide) (by decide)]
  rfl

/-- The two arguments no copy reads. -/
def keep (c : Dev nD) : sProp 𝕄 :=
  iprop(ownsTc c (Memref.whole main_arg0) fullShare (V₁ m c (Proc.devRef .tc main_arg0))
    ∗ ownsTc c (Memref.whole main_arg2) fullShare (V₁ m c (Proc.devRef .tc main_arg2)))

theorem rest_before (c : Dev nD) : (StableHlo.held (c : Thread nD τ) rest (V₁ m c) : sProp 𝕄)
    ⊢ iprop(keep m c ∗ arrays (xIn m) c ∗ ∃ X, ownsTc c aO fullShare X) := by
  rw [restBufs_eq]
  unfold keep arrays
  iintro ⟨H0, H2, HP, HR, HO⟩
  isplitl [H0 H2]; · isplitl [H0] <;> iassumption
  isplitl [HP HR]
  · isplitl [HP]; · iexact HP
    iexact HR
  iexists _; iexact HO

theorem rest_after (c : Dev nD) : iprop(keep m c ∗ arrays (xIn m) c ∗ ownsTc c aO fullShare (outAt (xIn m) c))
    ⊢ (StableHlo.held (c : Thread nD τ) rest (V₂ m c) : sProp 𝕄) := by
  rw [restBufs_eq, V₂_v3, V₂_ne m c (by decide), V₂_ne m c (by decide), V₂_ne m c (by decide), V₂_ne m c (by decide)]
  unfold keep arrays
  iintro ⟨⟨H0, H2⟩, ⟨HP, HR⟩, HO⟩
  isplitl [H0]; · iexact H0
  isplitl [H2]; · iexact H2
  isplitl [HP]; · iexact HP
  isplitl [HR]; · iexact HR
  iexact HO

/-- A scoped buffer at some contents. -/
theorem any_eq (c : Dev nD) (b : Ref sig .tc) : (iprop(∃ f : Buf (Elt F) ((c : Thread nD τ).loc b), ((c : Thread nD τ).loc b) ↦{fullShare} f) : sProp 𝕄)
    = iprop(∃ X : b.ty.Contents (Elt F), ownsTc c (Memref.whole b) fullShare X) :=
  congrArg (fun Φ : b.ty.Contents (Elt F) → sProp 𝕄 => iprop(∃ X, Φ X)) (funext fun X => (owns_whole (c : Thread nD τ) b fullShare X).symm)

theorem scopedRest_eq (c : Dev nD) : (Pipeline.scopedRest (Ix := Unit) (Name := ℕ) (U := UU) (Lvl := ℕ) (Val := Elt F) spec0 c : sProp 𝕄) = scratch c := by
  have h₁ : (Pipeline.scopedRest (Ix := Unit) (Name := ℕ) (U := UU) (Lvl := ℕ) (Val := Elt F) spec0 c : sProp 𝕄) ⊢ scratch c := by
    rw [scopedRest0_eq, any_eq, any_eq, any_eq, any_eq, any_eq, any_eq, any_eq, any_eq, any_eq]
    unfold scratch
    iintro ⟨H0, H1, H2, H3, H4, H5, H6, H7, H8⟩
    isplitl [H0 H1 H2]
    · isplitl [H0]; · iexact H0
      isplitl [H1]; · iexact H1
      iexact H2
    isplitl [H3 H4 H5]
    · isplitl [H3]; · iexact H3
      isplitl [H4]; · iexact H4
      iexact H5
    isplitl [H6]; · iexact H6
    isplitl [H7]; · iexact H7
    iexact H8
  have h₂ : scratch c ⊢ (Pipeline.scopedRest (Ix := Unit) (Name := ℕ) (U := UU) (Lvl := ℕ) (Val := Elt F) spec0 c : sProp 𝕄) := by
    rw [scopedRest0_eq, any_eq, any_eq, any_eq, any_eq, any_eq, any_eq, any_eq, any_eq, any_eq]
    unfold scratch
    iintro ⟨⟨H0, H1, H2⟩, ⟨H3, H4, H5⟩, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact equiv_iff.mp ⟨h₁, h₂⟩

/-! ## What the launch keeps for the region -/

abbrev osem (k : OK) : SemLoc sig := loc k.ck

/-- Every cell's invariant. -/
def invs (κ : GSem nD τ sig → ℕ) : sProp 𝕄 :=
  bigSep Finset.univ fun y : Dev nD × CK => cellInv ER (xIn m).Rd (κ (cell y.1 y.2)) (cell y.1 y.2)
instance invs_persistent (κ : GSem nD τ sig → ℕ) : BI.Persistent (invs m κ) := by unfold invs; infer_instance

/-- The right to open each cell but the barrier. -/
def closed (c : Dev nD) : sProp 𝕄 := bigSep Finset.univ fun k : OK => openTok ER (cell c k.ck)

def Tk (c : Dev nD) : sProp 𝕄 := iprop((∃ κ, invs m κ ∗ closed c ∗ barOpen c ∗ duties c) ∗ credits c)
def Xk (c : Dev nD) : sProp 𝕄 := iprop((∃ κ, (xIn m).ctx κ ∗ cellsOpen c ∗ barOpen c ∗ duties c) ∗ credits c)
def Yk (c : Dev nD) : sProp 𝕄 := semVal (cell c .bar) 0

theorem ownSems_zeros (c : Dev nD) : (Pipeline.ownSems0 osem c : sProp 𝕄) = zeros c := by
  show (bigSep Finset.univ fun k : OK => semVal (cell c k.ck) 0 : sProp 𝕄) = _
  unfold zeros
  rw [bigSep_univ_sum, bigSep_univ_sum]
  rfl

theorem hopen (c : Dev nD) : iprop(Tk m c ∗ Pipeline.ownSems0 osem c ∗ levAts L lv) ⊢ (|={Set.univ}=> Xk m c : sProp 𝕄) := by
  unfold Tk Xk
  rw [show (Pipeline.ownSems0 osem c : sProp 𝕄) = bigSep Finset.univ fun k : OK => semVal (cell c k.ck) 0 from rfl]
  have hi (κ) : iprop(invs m κ ∗ closed c) ⊢ bigSep Finset.univ fun k : OK => iprop(cellInv ER (xIn m).Rd (κ (cell c k.ck)) (cell c k.ck) ∗ openTok ER (cell c k.ck)) := by
    unfold closed
    refine bigSep_with_persistent (R := invs m κ) fun k _ => BI.sep_mono ?_ (BI.Entails.refl _)
    unfold invs
    exact bigSep_elim (Φ := fun y : Dev nD × CK => cellInv ER (xIn m).Rd (κ (cell y.1 y.2)) (cell y.1 y.2)) (Finset.mem_univ (c, k.ck))
  iintro ⟨⟨⟨%κ, #HI, Hcl, Hb, Hd⟩, Hc⟩, Hs, #HL⟩
  ihave Hcl := (hi κ) $$ [Hcl]
  · isplitr; · iexact HI
    iexact Hcl
  imod (Rounds.cells_open ER (xIn m).Rd Finset.univ (fun k : OK => cell c k.ck) (fun k => κ (cell c k.ck)) (Es := Set.univ) (fun _ _ => Set.mem_univ _)) $$ [Hcl Hs] with Ho
  · isplitl [Hcl]; · iexact Hcl
    iexact Hs
  imodintro
  isplitr [Hc]
  · iexists κ
    isplitr
    · unfold In.ctx
      unfold invs
      isplitr; · iexact HI
      iexact HL
    isplitl [Ho]; · unfold cellsOpen; iexact Ho
    isplitl [Hb] <;> iassumption
  · iexact Hc

/-! ## The proof data -/

def X1 (c : Dev nD) : sProp 𝕄 := iprop(Xk m c ∗ keep m c ∗ arrays (xIn m) c ∗ ∃ X, ownsTc c aO fullShare X)
def Y1 (c : Dev nD) : sProp 𝕄 := iprop(Yk c ∗ keep m c ∗ arrays (xIn m) c ∗ ownsTc c aO fullShare (outAt (xIn m) c))

/-- The region owes its copies and barrier units before its one point, nothing after. -/
def dat (c : Dev nD) : Dat τ (Elt F) Unit ℕ UU ℕ cfg0 c where
  A w := Gen.V m c (Pipeline.arrRef spec0 w)
  after := fun | (0 : Fin 1) => fun t => Gen.iblk m c 0 t
  Φ t := if t.val = 0 then iprop(X1 m c ∗ scratch c ∗ ∃ r, prngReg c r) else iprop(Y1 m c ∗ zeros c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem before_eq (c : Dev nD) (t : Fin cfg0.N) (d) : (dat m c).before 0 t d = Gen.iblk m c 0 t := by
  unfold Dat.before
  rw [if_pos (fetch0_0 t)]
  rfl

theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

set_option maxRecDepth 65536 in
/-- The body's obligation. -/
theorem obligation (c : Dev nD) : BodyObligation (dat (F := F) m c) defs₀ 𝒱₀ () Set.univ := fun t => by
  obtain rfl := fin_N0 t
  have run : iprop((X1 m c ∗ scratch c ∗ ∃ r, prngReg c r) ∗ (∃ W, owes (c : Thread nD τ) (O₀ c) W) ∗ ownsTc c aG fullShare ((xIn m).g c))
      ⊢ wpc (F := F) c (Gen.bodyAt0 t0_0) (fun _ => iprop((Y1 m c ∗ zeros c ∗ scratch c ∗ ∃ r, prngReg c r) ∗ (∃ W, owes (c : Thread nD τ) (0 : CellTallies nD τ sig Unit) W)
        ∗ ownsTc c aG fullShare ((xIn m).g c))) := by
    rw [body_eq]
    unfold X1 Y1 Xk Yk
    iintro ⟨⟨⟨⟨⟨%κ, #Hx, Ho, Hb, Hd⟩, Hc⟩, Hk, Ha, HO⟩, Hs, Hp⟩, HW, Hg⟩
    iapply (tri_core (xIn m) κ c _)
    isplitr; · iexact Hx
    isplitl [Ho Hb Hd Hc Ha HO Hs HW Hg]
    · unfold startA
      isplitl [Ha]; · iexact Ha
      isplitl [Hg]; · iexact Hg
      isplitl [Hs HO]; · isplitl [Hs] <;> iassumption
      isplitl [Ho]; · iexact Ho
      isplitl [Hb]; · iexact Hb
      isplitl [Hd]; · iexact Hd
      isplitl [Hc] <;> iassumption
    unfold endB J
    rw [owe_done]
    iintro ⟨Ha, Hg, ⟨Hs, HO⟩, Hz, Hb, HW⟩
    isplitl [Ha HO Hb Hk Hz Hs Hp]
    · isplitl [Ha HO Hb Hk]
      · isplitl [Hb]; · iexact Hb
        isplitl [Hk]; · iexact Hk
        isplitl [Ha] <;> iassumption
      isplitl [Hz]; · iexact Hz
      isplitl [Hs] <;> iassumption
    isplitl [HW] <;> iassumption
  rw [bigSep_W0, bigSep_W0]
  have hin : iprop((dat m c).Φ t0_0.castSucc ∗ (dat m c).owesAt () t0_0.castSucc
        ∗ ∃ d, owns c ((cfg0.win 0).stage (cfg0.slots t0_0 0)) fullShare ((dat m c).before 0 t0_0 d))
      ⊢ iprop((X1 m c ∗ scratch c ∗ ∃ r, prngReg c r) ∗ (∃ W, owes (c : Thread nD τ) (O₀ c) W) ∗ ownsTc c aG fullShare ((xIn m).g c)) := by
    rw [show (dat m c).Φ t0_0.castSucc = iprop(X1 m c ∗ scratch c ∗ ∃ r, prngReg c r) from rfl]
    unfold Dat.owesAt Pipeline.owesWithin
    rw [show (dat m c).owed t0_0.castSucc = O₀ c from rfl]
    iintro ⟨HΦ, ⟨%W, -, HO⟩, ⟨%d, Hg⟩⟩
    rw [before_eq]
    isplitl [HΦ]; · iexact HΦ
    isplitl [HO]; · iexists W; iexact HO
    iexact Hg
  have hout : iprop((Y1 m c ∗ zeros c ∗ scratch c ∗ ∃ r, prngReg c r) ∗ (∃ W, owes (c : Thread nD τ) (0 : CellTallies nD τ sig Unit) W) ∗ ownsTc c aG fullShare ((xIn m).g c))
      ⊢ iprop((dat m c).Φ t0_0.succ ∗ (dat m c).owesAt () t0_0.succ
        ∗ owns c ((cfg0.win 0).stage (cfg0.slots t0_0 0)) fullShare ((dat m c).after 0 t0_0)) := by
    rw [show (dat m c).Φ t0_0.succ = iprop(Y1 m c ∗ zeros c ∗ scratch c ∗ ∃ r, prngReg c r) from rfl]
    unfold Dat.owesAt Pipeline.owesWithin Dat.bound
    rw [show (dat m c).owed t0_0.succ = 0 from rfl,
      show (owns (c : Thread nD τ) ((cfg0.win 0).stage (cfg0.slots t0_0 0)) fullShare ((dat m c).after 0 t0_0) : sProp 𝕄) = ownsTc c aG fullShare ((xIn m).g c) from rfl]
    iintro ⟨HΦ, ⟨%W, HO⟩, Hg⟩
    isplitl [HΦ]; · iexact HΦ
    isplitl [HO]
    · iexists W
      isplitr; · ipureintro; exact fun _ _ => Or.inl trivial
      iexact HO
    iexact Hg
  have hw := run.trans (wp_mono _ _ _ fun _ => hout)
  exact hin.trans hw

end Cert.KernelIdeal.Tiled
end
end
-- ==== Proof.Launch.lean ====
/-
# The launch

Every cell's invariant, every duty's token and every core's credit, made once for all the cores and
handed to those who use them.
-/
module

public import proofs.«01_k».proof.Proof.Region

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem OK.ck_inj : Function.Injective OK.ck := by
  rintro (a | a | a) (b | b | b) h <;> first | (cases h; rfl) | cases h
theorem OK.ck_ne (k : OK) : k.ck ≠ .bar := by rcases k with k | k | k <;> exact fun h => by cases h

def barEmb : Dev nD ↪ GSem nD τ sig := ⟨fun c => cell c .bar, fun _ _ h => (cell_inj h).1⟩
def scEmb : Dev nD × OK ↪ GSem nD τ sig :=
  ⟨fun y => cell y.1 y.2.ck, fun _ _ h => Prod.ext (cell_inj h).1 (OK.ck_inj (cell_inj h).2)⟩

/-- The barrier cells, and the cells of the copies. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨y, -, h⟩ := Finset.mem_map.mp h₂
  exact y.2.ck_ne (cell_inj h).2

theorem mem_cells (c : Dev nD) (k : CK) : cell c k ∈ (barCells ∪ scCells : Finset (GSem nD τ sig)) := by
  rcases k with _ | k | k | k
  · exact Finset.mem_union_left _ (Finset.mem_map_of_mem barEmb (Finset.mem_univ c))
  · exact Finset.mem_union_right _ (Finset.mem_map_of_mem scEmb (Finset.mem_univ ((c, .inl k) : Dev nD × OK)))
  · exact Finset.mem_union_right _ (Finset.mem_map_of_mem scEmb (Finset.mem_univ ((c, .inr (.inl k)) : Dev nD × OK)))
  · exact Finset.mem_union_right _ (Finset.mem_map_of_mem scEmb (Finset.mem_univ ((c, .inr (.inr k)) : Dev nD × OK)))

/-! ## The duty tokens -/

/-- A duty of a core's cells: of its barrier, or of another. -/
abbrev TK : Type := Fin 3 ⊕ OK
def TK.at (c : Dev nD) : TK → GSem nD τ sig × ℕ × DD
  | .inl j => (cell c .bar, 0, j)
  | .inr k => (cell c k.ck, 0, 0)
theorem TK.at_inj {c c' : Dev nD} {k k' : TK} (h : k.at c = k'.at c') : c = c' ∧ k = k' := by
  have h₁ := cell_inj (c := c) (c' := c') (k := k.elim (fun _ => .bar) OK.ck) (k' := k'.elim (fun _ => .bar) OK.ck)
    (by have := congrArg Prod.fst h; rcases k with k | k <;> rcases k' with k' | k' <;> exact this)
  have h₂ : (k.at c).2.2 = (k'.at c').2.2 := congrArg (fun y => y.2.2) h
  refine ⟨h₁.1, ?_⟩
  rcases k with k | k <;> rcases k' with k' | k'
  · exact congrArg _ h₂
  · exact absurd h₁.2.symm k'.ck_ne
  · exact absurd h₁.2 k.ck_ne
  · exact congrArg _ (OK.ck_inj h₁.2)
def tokEmb : Dev nD × TK ↪ GSem nD τ sig × ℕ × DD :=
  ⟨fun y => y.2.at y.1, fun _ _ h => Prod.ext (TK.at_inj h).1 (TK.at_inj h).2⟩
def toks : Finset (GSem nD τ sig × ℕ × DD) := Finset.univ.map tokEmb

/-- A core and a kind, to the neighbour along the kind's direction and the kind. -/
def step {K : Type} (dir : K → Fin 3) : Dev nD × K ≃ Dev nD × K :=
  ⟨fun y => (pr y.1 (dir y.2), y.2), fun y => (pr y.1 (dir y.2), y.2), fun y => Prod.ext (pr_pr _ _) rfl, fun y => Prod.ext (pr_pr _ _) rfl⟩

/-- What every core has for every kind, its neighbour along that kind's direction has as well. -/
theorem around {K : Type} [Fintype K] [DecidableEq K] (dir : K → Fin 3) (Φ : Dev nD → K → sProp 𝕄) :
    (bigSep Finset.univ fun c : Dev nD => bigSep Finset.univ fun k : K => Φ c k)
      = bigSep Finset.univ fun c : Dev nD => bigSep Finset.univ fun k : K => Φ (pr c (dir k)) k := by
  rw [← bigSep_univ_prod (fun y : Dev nD × K => Φ y.1 y.2), bigSep_univ_equiv (step dir), bigSep_univ_prod]
  rfl

/-- Every token goes to the core that pays the duty. -/
theorem toks_dealt : bigSep toks (fun x => (dutyTok ER x.1 x.2.1 x.2.2 : sProp 𝕄)) ⊢ bigSep Finset.univ fun c : Dev nD => (duties c : sProp 𝕄) := by
  have e : bigSep toks (fun x => (dutyTok ER x.1 x.2.1 x.2.2 : sProp 𝕄))
      = bigSep Finset.univ fun c : Dev nD => iprop((bigSep Finset.univ fun j : Fin 3 => dutyTok ER (cell c .bar) 0 j)
        ∗ (bigSep Finset.univ fun k : RC => dutyTok ER (cell c (.snd k)) 0 0) ∗ (bigSep Finset.univ fun k : RC => dutyTok ER (cell c (.rcv k)) 0 0)
        ∗ bigSep Finset.univ fun k : LC => dutyTok ER (cell c (.lcl k)) 0 0) := by
    unfold toks
    rw [bigSep_map, bigSep_univ_prod]
    refine bigSep_congr fun c _ => ?_
    rw [bigSep_univ_sum, bigSep_univ_sum, bigSep_univ_sum]
    rfl
  rw [e]
  unfold duties
  simp only [bigSep_sep']
  rw [around (F := F) (fun j : Fin 3 => j) (fun c j => dutyTok ER (cell c .bar) 0 j), around (F := F) RC.dir (fun c k => dutyTok ER (cell c (.rcv k)) 0 0)]
  iintro ⟨Hb, Hs, Hr, Hl⟩
  isplitl [Hs]; · iexact Hs
  isplitl [Hl]; · iexact Hl
  isplitl [Hr] <;> iassumption

/-! ## The credit -/

theorem tally_self (g : GSem nD τ sig) (n : ℕ) : (tallyAt g () n : CellTallies nD τ sig Unit) g () = n := by
  rw [tallyAt_apply, if_pos ⟨rfl, rfl⟩]
theorem tally_other {g g' : GSem nD τ sig} (n : ℕ) (h : g' ≠ g) : (tallyAt g () n : CellTallies nD τ sig Unit) g' () = 0 := by
  rw [tallyAt_apply, if_neg fun h' => h h'.1]

theorem owe_apply (c : Dev nD) (n : ℕ) (g : GSem nD τ sig) :
    owe c n g () = ∑ k ∈ Finset.univ.filter (fun k : RC => n ≤ k.ord), (tallyAt (cell (pr c k.dir) (.rcv k)) () N : CellTallies nD τ sig Unit) g () := by
  unfold owe
  rw [Finset.sum_apply, Finsupp.finset_sum_apply]

theorem O₀_apply (c : Dev nD) (g : GSem nD τ sig) :
    O₀ c g () = owe c 0 g () + oweBar c 2 g () + oweBar c 1 g () + oweBar c 0 g () := rfl

theorem owe_bar (d c : Dev nD) : owe d 0 (cell c .bar) () = 0 := by
  rw [owe_apply]
  exact Finset.sum_eq_zero fun k _ => tally_other N fun h => by cases (cell_inj h).2
theorem owe_rcv (d c : Dev nD) (k : RC) : owe d 0 (cell c (.rcv k)) () = if d = pr c k.dir then N else 0 := by
  rw [owe_apply, Finset.sum_eq_single k]
  · by_cases h : d = pr c k.dir
    · subst h; rw [pr_pr, tally_self, if_pos rfl]
    · rw [if_neg h]
      exact tally_other N fun h' => h (by rw [(cell_inj h').1, pr_pr])
  · intro k' _ hk
    exact tally_other N fun h => hk (by cases (cell_inj h).2; rfl)
  · intro h; exact absurd (Finset.mem_filter.mpr ⟨Finset.mem_univ k, Nat.zero_le k.ord⟩) h
theorem oweBar_bar (d c : Dev nD) (j : Fin 3) : oweBar d j (cell c .bar) () = if d = pr c j then 1 else 0 := by
  unfold oweBar
  by_cases h : d = pr c j
  · subst h; rw [pr_pr, tally_self, if_pos rfl]
  · rw [if_neg h]
    exact tally_other 1 fun h' => h (by rw [(cell_inj h').1, pr_pr])
theorem oweBar_rcv (d c : Dev nD) (j : Fin 3) (k : RC) : oweBar d j (cell c (.rcv k)) () = 0 :=
  tally_other 1 fun h => by cases (cell_inj h).2

/-- A barrier cell is owed a unit by each of three neighbours. -/
theorem launch_bar (c : Dev nD) :
    tallyOn (cell c .bar) (launchCredit (Pipeline.owing O₀) 0 (cell c .bar)) = (tallyAt (cell c .bar) () 3 : CellTallies nD τ sig Unit) := by
  unfold tallyAt; refine congrArg _ (Finsupp.ext fun u => ?_); cases u
  rw [Pipeline.launchCredit_owing, Finsupp.single_eq_same]
  simp only [O₀_apply, owe_bar, oweBar_bar, Finset.sum_add_distrib, Finset.sum_ite_eq', Finset.mem_univ, if_true, Finset.sum_const_zero]
/-- A receive cell is owed one tile, by one neighbour. -/
theorem launch_rcv (c : Dev nD) (k : RC) :
    tallyOn (cell c (.rcv k)) (launchCredit (Pipeline.owing O₀) 0 (cell c (.rcv k))) = (tallyAt (cell c (.rcv k)) () N : CellTallies nD τ sig Unit) := by
  unfold tallyAt; refine congrArg _ (Finsupp.ext fun u => ?_); cases u
  rw [Pipeline.launchCredit_owing, Finsupp.single_eq_same]
  simp only [O₀_apply, owe_rcv, oweBar_rcv, Finset.sum_add_distrib, Finset.sum_ite_eq', Finset.mem_univ, if_true, Finset.sum_const_zero, Nat.add_zero]

def locEmb : CK ↪ SemLoc sig := ⟨loc, loc_inj⟩

theorem creds (c : Dev nD) : (Pipeline.launchCred O₀ c : sProp 𝕄) ⊢ credits c := by
  unfold Pipeline.launchCred credits
  refine BIBase.Entails.trans (bigSep_subset (Finset.subset_univ (Finset.univ.map locEmb))) ?_
  rw [bigSep_map, bigSep_univ_equiv CK.sum.symm, bigSep_univ_sum, bigSep_univ_sum, bigSep_univ_sum]
  have hb : (bigSep Finset.univ fun u : Unit => cred (tallyOn (cell c (CK.sum.symm (.inl u))) (launchCredit (Pipeline.owing O₀) 0 (cell c (CK.sum.symm (.inl u))))) : sProp 𝕄)
      = cred (tallyAt (cell c .bar) () 3) := by
    rw [show (Finset.univ : Finset Unit) = {()} from rfl, bigSep_singleton]
    exact congrArg cred (launch_bar c)
  have hr : (bigSep Finset.univ fun k : RC => cred (tallyOn (cell c (.rcv k)) (launchCredit (Pipeline.owing O₀) 0 (cell c (.rcv k)))) : sProp 𝕄)
      = bigSep Finset.univ fun k : RC => cred (tallyAt (cell c (.rcv k)) () N) :=
    bigSep_congr fun k _ => congrArg cred (launch_rcv c k)
  rw [← hb, ← hr]
  exact BI.sep_mono (BI.Entails.refl _) (sep_and.trans (and_elimR.trans (sep_and.trans and_elimL)))

/-! ## What is parked, and what each core takes of it -/

variable (m : (ℓ : Loc nD τ sig) → Buf (Elt F) ℓ) (ρ : Dev nD → PrngReg)

/-- The pipeline library's element at the staging cells; the protocol's at the others. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's element, all of it on core 0. -/
def G (c : Dev nD) : sProp 𝕄 := if c = 0 then BI.own (ER (launchOf barCells scCells toks)) else iprop(emp)
theorem bigSep_G : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every core may consult: the invariants, and that the barrier cells are open. -/
def records (κ : GSem nD τ sig → ℕ) : sProp 𝕄 :=
  iprop(invs m κ ∗ bigSep Finset.univ fun c : Dev nD => reached ER (cell c .bar) 0)
instance records_persistent (κ : GSem nD τ sig → ℕ) : BI.Persistent (records m κ) := by unfold records; infer_instance

theorem invs_intro (κ : GSem nD τ sig → ℕ) :
    (bigSep (barCells ∪ scCells) fun g => (cellInv ER (xIn m).Rd (κ g) g : sProp 𝕄)) ⊢ invs m κ := by
  unfold invs
  refine BIBase.Entails.trans (bigSep_of_persistent (Finset.univ : Finset (Dev nD × CK)) _) (bigSep_mono fun y _ => ?_)
  exact bigSep_elim (Φ := fun g => (cellInv ER (xIn m).Rd (κ g) g : sProp 𝕄)) (mem_cells y.1 y.2)

/-- What only core `c` takes. -/
def linear (c : Dev nD) : sProp 𝕄 := iprop(atPos ER (cell c .bar) 0 ∅ 0 ∗ closed c ∗ duties c)

theorem barOpen_intro (c : Dev nD) : iprop((bigSep Finset.univ fun d : Dev nD => reached ER (cell d .bar) 0) ∗ atPos ER (cell c .bar) 0 ∅ 0)
    ⊢ (barOpen c : sProp 𝕄) := by
  unfold barOpen
  iintro ⟨#HR, Ha⟩
  isplitl [Ha]; · iexact Ha
  have h : (bigSep Finset.univ fun d : Dev nD => (reached ER (cell d .bar) 0 : sProp 𝕄)) ⊢ bigSep Finset.univ fun j : Fin 3 => reached ER (cell (pr c j) .bar) 0 :=
    BIBase.Entails.trans (bigSep_of_persistent (Finset.univ : Finset (Fin 3)) _)
      (bigSep_mono fun j _ => bigSep_elim (Φ := fun d : Dev nD => (reached ER (cell d .bar) 0 : sProp 𝕄)) (Finset.mem_univ (pr c j)))
  iapply h
  iexact HR

theorem Tk_intro (κ : GSem nD τ sig → ℕ) (c : Dev nD) : iprop(records m κ ∗ linear c ∗ credits c) ⊢ Tk m c := by
  unfold records linear Tk
  iintro ⟨⟨#HI, #HR⟩, ⟨Ha, Hc, Hd⟩, Hcr⟩
  isplitr [Hcr]
  · iexists κ
    isplitr; · iexact HI
    isplitl [Hc]; · iexact Hc
    isplitl [Ha]
    · iapply (barOpen_intro c)
      isplitr; · iexact HR
      iexact Ha
    iexact Hd
  · iexact Hcr

end Cert.KernelIdeal.Tiled
end
end
-- ==== Proof.Run.lean ====
/-
# The run

The whole program on the eight cores: it ends, every core's result array holds what the copies put
there, the arguments are as they were and every semaphore is at zero.
-/
module

public import proofs.«01_k».proof.Proof.Launch

@[expose] public section

noncomputable section

namespace Cert.KernelIdeal.Tiled

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

theorem stage_ne (k : CK) : loc k ≠ .dma (sem0_0 0) := by
  have hs : (sem0_0 0 : DmaSem sig).val = 0 := by decide
  intro h
  rcases k with _ | k | k | k
  · cases h
  all_goals
    have h' := dma_val h
    simp only [sSem_val, rSem_val, lSem_val] at h'
    omega

set_option backward.isDefEq.respectTransparency.types false in
theorem osem_facts : Pipeline.OwnSemFacts spec0 osem where
  isScoped k := by
    have h : ∀ s : DmaSem sig, (SemLoc.dma s : SemLoc sig).isScoped .tc = true := by decide
    rcases k with k | k | k <;> exact h _
  inj := fun _ _ h => OK.ck_inj (loc_inj h)
  disj k w s := by
    obtain rfl : w = (0 : Fin 1) := Subsingleton.elim _ _
    exact stage_ne k.ck

theorem lv_stage (c : Dev nD) : lv ((c : Thread nD τ), .dma (sem0_0 0)) () = 0 := by
  show (dec (.dma (sem0_0 0))).elim 0 lvK = 0
  unfold dec
  rw [dif_neg fun ⟨k, h⟩ => stage_ne k h]; rfl

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · rcases O₀_pos c g i h with ⟨k, rfl⟩ | ⟨j, rfl⟩
    · refine ⟨by rw [L_tc]; exact Finset.mem_singleton_self _, ?_⟩
      rw [lv_eq]; cases k <;> exact Nat.succ_pos _
    · refine ⟨by rw [L_tc]; exact Finset.mem_singleton_self _, ?_⟩
      rw [lv_eq]; decide
  · exact absurd h (Nat.lt_irrefl 0)

theorem levels_cut : Pipeline.LevelCutOwed (pcfgs (F := F)) adm (pdats m) () L lv 0 (fun _ => 0) where
  hι c w s := by rw [L_tc]; exact Finset.mem_singleton_self _
  hιb c w s := by
    obtain rfl : w = (0 : Fin 1) := Subsingleton.elim (α := Fin 1) _ _
    exact (lv_stage c).le
  hD := owed_cut m

theorem region_in (c : Dev nD) : iprop(Pipeline.scopedRest (Pipeline.pin (pcfgs (F := F)) adm 0).spec c ∗ (∃ r, prngReg c r)
      ∗ StableHlo.held (c.tc : Thread nD τ) rest (V₁ m c) ∗ Xk m c)
    ⊢ (pdats m 0 c).Φ 0 := by
  rw [show (pdats m 0 c).Φ 0 = iprop(X1 m c ∗ scratch c ∗ ∃ r, prngReg c r) from rfl,
    show (Pipeline.scopedRest (Pipeline.pin (pcfgs (F := F)) adm 0).spec c : sProp 𝕄) = scratch c from scopedRest_eq c]
  unfold X1
  iintro ⟨Hs, Hp, Hh, HX⟩
  ihave Hh := (rest_before m c) $$ Hh
  icases Hh with ⟨Hk, Ha, HO⟩
  isplitl [HX Hk Ha HO]
  · isplitl [HX]; · iexact HX
    isplitl [Hk]; · iexact Hk
    isplitl [Ha]; · iexact Ha
    iexact HO
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) rest (V₂ m c) ∗ Pipeline.ownSems0 osem c ∗ Yk c) := by
  rw [show (pdats m 0 c).Φ (Fin.last _) = iprop(Y1 m c ∗ zeros c ∗ scratch c ∗ ∃ r, prngReg c r) from rfl,
    show (Pipeline.scopedRest (Pipeline.pin (pcfgs (F := F)) adm 0).spec c : sProp 𝕄) = scratch c from scopedRest_eq c,
    ownSems_zeros]
  unfold Y1
  iintro ⟨⟨Hb, Hk, Ha, HO⟩, Hz, Hs, Hp⟩
  isplitl [Hs]; · iexact Hs
  isplitl [Hp]; · iexact Hp
  isplitl [Hk Ha HO]
  · iapply (rest_after m c)
    isplitl [Hk]; · iexact Hk
    isplitl [Ha]; · iexact Ha
    iexact HO
  isplitl [Hz]; · iexact Hz
  iexact Hb

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    rest rest (Finset.Subset.refl _) launch0.toP rfl (fun c => (obligation m c).loose)
    (fun _ => 0) O₀ (fun c => (owed_zero m c).trans (zero_add _).symm) (owed_last m) (fun _ => rfl)
    (fun c w => by
      obtain rfl : w = (0 : Fin 1) := Subsingleton.elim (α := Fin 1) _ _
      unfold Dat.share; split <;> rfl)
    (V₁ m) (V₂ m) (fun _ b hb => absurd hb (by rw [Finset.sdiff_self]; exact Finset.notMem_empty b))
    (Tk m) Yk (Xk m) Yk (hopen m) (region_in m) (region_out m)
    (fun c => by iintro H; imodintro; iexact H)
    (fun _ => 0) (levels_cut m)
    (fun _ => iprop(emp))
    (fun c w => by
      obtain rfl : w = (0 : Fin 1) := Subsingleton.elim (α := Fin 1) _ _
      rfl)
    (fun c w => by
      obtain rfl : w = (0 : Fin 1) := Subsingleton.elim (α := Fin 1) _ _
      refine (Dat.arrAt_in (dat m c) (0 : Fin 1) rfl _).trans ?_
      exact (V₂_ne m c (b := Proc.devRef .tc main_v2) (by decide)).symm)

/-! ## The program as its host operations and its region -/

/-- What a core carries past the host operations. -/
def R (c : Dev nD) : sProp 𝕄 := iprop((Tk m c ∗ ∃ r, prngReg c r) ∗ ∃ W, owes (c : Thread nD τ) (O₀ c) W)

theorem ops_sub : ∀ op ∈ (hostOps0 : List (HloOp τ sig (Elt F))), op.bufs ⊆ bufs :=
  fun op h => Pipeline.sub_ucRefs op (List.forall_iff_forall_mem.mp hostOps0_sub op h)
theorem ops_fresh : ∀ op ∈ (hostOps0 : List (HloOp τ sig (Elt F))), op.fresh = ∅ :=
  fun op h => List.forall_iff_forall_mem.mp hostOps0_fresh op h

def seg0 : Pipeline.HostSeg (Name := ℕ) (U := UU) (pcfgs (F := F)) defs₀ 𝒱₀ L lv :=
  Pipeline.HostSeg.ofOps _ _ _ _ _ bufs hostOps0 ops_sub ops_fresh (V₀ m) (R m)

theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rest (V₁ m c) ∗ emp) ∗ Tk m c ∗ ∃ Wd, owes (c : Thread nD τ) (0 + O₀ c) Wd)
  rw [bufs_split, zero_add]
  unfold R
  iintro ⟨⟨Ha, Hh⟩, ⟨HK, Hp⟩, HO⟩
  isplitl [Ha]; · iexact Ha
  isplitl [Hp]; · iexact Hp
  isplitl [Hh]
  · isplitl [Hh]; · iexact Hh
    iempintro
  isplitl [HK]; · iexact HK
  iexact HO

theorem reg0_post (c : Dev nD) : (reg0 m).post c
    ⊢ iprop((StableHlo.held (c : Thread nD τ) bufs (V₂ m c) ∗ semVal (cell c .bar) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [bufs_split]
  unfold Yk
  iintro ⟨Ha, -, ⟨Hh, -⟩, Hb, HO⟩
  isplitr [HO]
  · isplitr [Hb]
    · isplitl [Ha] <;> iassumption
    · iexact Hb
  · iexact HO

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

/-! ## The launch's holdings dealt -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (cell c .bar) 0)

/-- What of a core's launch holdings is not the protocol's. -/
def bundle (c : Dev nD) : sProp 𝕄 :=
  iprop(StableHlo.held (c : Thread nD τ) bufs (V₀ m c) ∗ credits c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R
  iintro ⟨#HR, Hl, Hh, Hc, HO, Hp⟩
  isplitl [Hh]; · iexact Hh
  isplitr [HO]
  · isplitr [Hp]
    · iapply (Tk_intro m κ c)
      isplitr; · iexact HR
      isplitl [Hl] <;> iassumption
    · iexact Hp
  · iexists ∅; iexact HO

theorem unscoped_eq : ∀ sm : SemLoc sig, sm.isScoped .tc = false → sm = loc .bar := by decide
theorem unscopedSems_eq (c : Dev nD) : (unscopedSems0 c : sProp 𝕄) = semVal (cell c .bar) 0 := by
  unfold unscopedSems0
  rw [show (Finset.univ.filter fun sm : SemLoc sig => ¬ sm.isScoped .tc) = {loc .bar} from by decide, bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c .bar) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ bigSep Finset.univ (fun c : Dev nD => semVal (cell c .bar) 0) ∗ bigSep Finset.univ G) : sProp 𝕄) := by
    rw [← bigSep_sep', ← bigSep_sep']
    exact bigSep_mono fun c _ => hcore c
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hrc : bigSep barCells (fun g => (reached ER g 0 : sProp 𝕄)) ⊢ bigSep Finset.univ (fun c : Dev nD => (reached ER (cell c .bar) 0 : sProp 𝕄)) :=
    Entails.of_eq (bigSep_map (s := Finset.univ) barEmb (Φ := fun g : GSem nD τ sig => (reached ER g 0 : sProp 𝕄)))
  have hcl : bigSep scCells (fun g => (openTok ER g : sProp 𝕄)) ⊢ bigSep Finset.univ (fun c : Dev nD => (closed c : sProp 𝕄)) :=
    Entails.of_eq (by rw [bigSep_map, bigSep_univ_prod]; rfl)
  iintro ⟨H, -⟩
  ihave H' := hall $$ H
  icases H' with ⟨HB, Hv, HG⟩
  ihave Hu := (show bigSep Finset.univ (G (F := F)) ⊢ BI.own (ER (launchOf barCells scCells toks)) from Entails.of_eq bigSep_G) $$ HG
  imod (Rounds.fund_launch ER (xIn m).Rd disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr
    · iapply (invs_intro m κ); iexact Hinv
    · iapply hrc; iexact Hr
  have hlin : iprop((bigSep Finset.univ fun c : Dev nD => atPos ER (cell c .bar) 0 ∅ 0) ∗ (bigSep Finset.univ fun c : Dev nD => closed c)
        ∗ bigSep Finset.univ fun c : Dev nD => duties c) ∗ bigSep Finset.univ (bundle m)
      ⊢ (bigSep Finset.univ fun c : Dev nD => iprop(linear c ∗ bundle m c) : sProp 𝕄) := by
    unfold linear
    rw [← bigSep_sep', ← bigSep_sep', ← bigSep_sep']
  iapply hlin
  isplitr [HB]
  · isplitl [Hat]; · iapply hat $$ Hat
    isplitl [Hopen]; · iapply hcl $$ Hopen
    iapply (toks_dealt (F := F)) $$ Htok
  · iexact HB

set_option backward.isDefEq.respectTransparency.types false in
/-- From any memory with every counter at zero, every weakly fair run of the program ends; the result array of every core
then holds what the copies put there, the three arguments are as they were, and every counter of the machine is zero. -/
theorem run_main : θ_run defs (onTc (τ := τ) (main (F := F))) ⟨m, fun _ => 0, ρ⟩
    (fun r => (∀ c : Dev nD, r.2.mem ((c : Thread nD τ).loc main_v3) = outAt (xIn m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_v3) = V₂ m c (Proc.devRef .tc main_v3)
        ∧ s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2))
      ∧ s.sem (cell c .bar) = 0)
    (hfin := fun c s' => by
      dsimp only [Tₙ]; rw [bufs_split, restBufs_eq]
      rw [show (ownsTc c (Memref.whole main_arg0) fullShare (V₂ m c (Proc.devRef .tc main_arg0)) : sProp 𝕄) = _ from owns_whole ..,
        show (ownsTc c (Memref.whole main_arg2) fullShare (V₂ m c (Proc.devRef .tc main_arg2)) : sProp 𝕄) = _ from owns_whole ..,
        show (ownsTc c aR fullShare (V₂ m c (Proc.devRef .tc main_arg1)) : sProp 𝕄) = _ from owns_whole ..,
        show (ownsTc c aO fullShare (V₂ m c (Proc.devRef .tc main_v3)) : sProp 𝕄) = _ from owns_whole ..]
      iintro ⟨⟨⟨-, H0, H2, -, H1, H3⟩, Hb⟩, HSI⟩
      icombine HSI H0 gives %h0
      icombine HSI H2 gives %h2
      icombine HSI H1 gives %h1
      icombine HSI H3 gives %h3
      icombine HSI Hb gives %hb
      imodintro
      isplitr
      · ipureintro
        exact ⟨⟨Buf.eq_of_forall_mem_univ h3, Buf.eq_of_forall_mem_univ h0, Buf.eq_of_forall_mem_univ h1, Buf.eq_of_forall_mem_univ h2⟩, by simpa using hb⟩
      iexact HSI)
    (hQ := fun s h hs => ⟨fun c => by
        obtain ⟨⟨h3, h0, h1, h2⟩, -⟩ := h c
        rw [V₂_v3] at h3
        rw [V₂_ne m c (by decide)] at h0 h1 h2
        exact ⟨h3, h0.trans (V_main_arg0 m c), h1.trans (V_main_arg1 m c), h2.trans (V_main_arg2 m c)⟩,
      sem_eq_zero hs fun c sm hsm => by
        obtain rfl := unscoped_eq sm hsm
        exact (h c).2⟩)

end Cert.KernelIdeal.Tiled
end
end
-- ==== Proof.RefValue.lean ====
/-
# What the reference computes

The reference's composed term over the extended reals, and each of its elements in closed form.
-/
module

public import proofs.«01_k».proof.Proof.Gen.ReferenceIdeal.Run
public import Idealize.ShloMosaic.Lib.Pointwise
public import Idealize.ShloMosaic.Lib.Quiescent

@[expose] public section

noncomputable section

/-! ## The normalised row -/

namespace Cert.RowNorm

open Idealize.ShloMosaic

/-- One element of a normalised row: the row `s` over the root of its mean square plus the small
constant, times the weight `w`, at place `k`. -/
def elem (s : Fin 1024 → Ideal .f32) (w : Fin 1024 → Ideal .f32) (k : Fin 1024) : Ideal .f32 :=
  Ideal.div (s k) (Ideal.sqrt (Ideal.div (∑ l : Fin 1024, s l * s l) (Ideal.ofBits .f32 0x44800000#32) + Ideal.ofBits .f32 0x358637BD#32)) * w k

end Cert.RowNorm

namespace Cert.ReferenceIdeal.Tiled

open Cert.ReferenceIdeal Cert.ReferenceIdeal.Gen
open Idealize.ShloMosaic Idealize.ShloMosaic.TcCoe Idealize.SL.Sem

/-- The sum of the two partial arrays and the residual. -/
def total (X : FVec Ideal S2x1024x1024 .f32) (R : FVec Ideal S1024x1024 .f32) : FVec Ideal S1024x1024 .f32 :=
  addf (Host.reduceAdd X (constant S_ .f32 0x00000000#32) reducesTo_S2x1024x1024_S1024x1024_d0 h_S_) R

/-- The reference's result as its operations compose it. -/
def result (X : FVec Ideal S2x1024x1024 .f32) (R : FVec Ideal S1024x1024 .f32) (G : FVec Ideal S1024 .f32) : FVec Ideal S1024x1024 .f32 :=
  mulf (Host.divf (total X R)
      (broadcastInDim S1024x1024 ![0, 1] bcast_S1024x1_S1024x1024_0_1
        (Host.sqrt (addf (Host.divf (broadcastInDim S1024x1 ![0] bcast_S1024_S1024x1_0
            (Host.reduceAdd (mulf (total X R) (total X R)) (constant S_ .f32 0x00000000#32) reducesTo_S1024x1024_S1024_d1 h_S_))
            (broadcastInDim S1024x1 ![] bcast_S_S1024x1 (constant S_ .f32 0x44800000#32)))
          (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 G))

/-- An element of the sum: the two partial elements and the residual's. -/
theorem total_apply (X : FVec Ideal S2x1024x1024 .f32) (R : FVec Ideal S1024x1024 .f32) (a b : Fin 1024) :
    total X R (ix2 a b) = X (ix3 0 a b) + X (ix3 1 a b) + R (ix2 a b) := by
  pointwise [total]
  rw [Fin.sum_univ_two]

/-- An element of the result: its row of the sum, normalised. -/
theorem result_apply (X : FVec Ideal S2x1024x1024 .f32) (R : FVec Ideal S1024x1024 .f32) (G : FVec Ideal S1024 .f32) (a b : Fin 1024) :
    result X R G (ix2 a b) = Cert.RowNorm.elem (fun k => total X R (ix2 a k)) (fun k => G (ix1 k)) b := by
  pointwise [result, Cert.RowNorm.elem]

/-- The reference ends with its result array at `result` of its arguments, which it keeps. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.ReferenceIdeal.Value.run (F := Ideal) m ρ

end Cert.ReferenceIdeal.Tiled
end
end
-- ==== Proof.Value.lean ====
/-
# The kernel's result is the reference's

Over the extended reals: a tile's payload is the normalised rows, every core reads the rows of both
partial arrays, and so every core's result is the reference's.
-/
module

public import proofs.«01_k».proof.Proof.Region
public import proofs.«01_k».proof.Proof.RefValue
public import Idealize.ShloMosaic.Lib.Layout

@[expose] public section

noncomputable section

namespace Cert.KernelIdeal.Tiled

open Cert.KernelIdeal Cert.KernelIdeal.Gen
open Idealize.ShloMosaic Idealize.ShloMosaic.TcCoe
open Idealize.SL.Sem

/-! ## A tile's payload -/

/-- A payload's element: the row of the three arrays' sum, normalised. -/
theorem pay_apply (a b r : Vec Ideal S16x1024 .f32) (g : Vec Ideal S1x1024 .f32) (i : Fin 16) (k : Fin 1024) :
    k0_pay1 a b r g (ix2 i k)
      = Cert.RowNorm.elem (fun l => a (ix2 i l) + b (ix2 i l) + r (ix2 i l)) (fun l => g (ix2 0 l)) k := by
  pointwise [k0_pay1, Cert.RowNorm.elem]

/-- The row of the whole array that is row `i` of tile `t` of group `g`. -/
def rowOf (g : Fin 4) (t i : Fin 16) : Fin 1024 := ⟨256 * g.val + 16 * t.val + i.val, by omega⟩

/-- Every row is a row of a tile. -/
theorem rowOf_surj (a : Fin 1024) : ∃ (g : Fin 4) (t i : Fin 16), rowOf g t i = a :=
  ⟨⟨a.val / 256, by omega⟩, ⟨a.val % 256 / 16, by omega⟩, ⟨a.val % 16, by omega⟩, Fin.ext (by show 256 * (a.val / 256) + 16 * (a.val % 256 / 16) + a.val % 16 = a.val; omega)⟩

/-- A tile's place in the whole array. -/
theorem emb_tile (g : Fin 4) (t i : Fin 16) (k : Fin 1024) : (rT g t).emb (ix2 i k) = ix2 (rowOf g t i) k := by
  funext a
  refine Fin.ext ?_
  match a with
  | ⟨0, _⟩ => show 256 * g.val + 16 * t.val + 1 * i.val = 256 * g.val + 16 * t.val + i.val; omega
  | ⟨1, _⟩ => show 0 + 1 * k.val = k.val; omega
theorem rows_apply (A : Vec Ideal S1024x1024 .f32) (g : Fin 4) (t i : Fin 16) (k : Fin 1024) :
    rows A g t (ix2 i k) = A (ix2 (rowOf g t i) k) := congrArg A (emb_tile g t i k)

/-! ## What a core reads -/

section reads
variable (m : (ℓ : Loc nD τ sig) → Buf (Elt Ideal) ℓ)

theorem xIn_p (c : Dev nD) (a b : Fin 1024) : (xIn m).p c (ix2 a b) = m ((c.tc : Thread nD τ).loc main_arg0) (ix3 0 a b) := by
  show V₁ m c (Proc.devRef .tc main_v1) (ix2 a b) = _
  unfold V₁ V₀
  after_results
  pointwise
theorem xIn_r (c : Dev nD) : (xIn m).r c = m ((c.tc : Thread nD τ).loc main_arg1) := V_main_arg1 m c
/-- The staged window's block is its whole array. -/
theorem window_whole (c : Dev nD) (b : Fin 1024) : (xIn m).g c (ix2 0 b) = V₁ m c (Proc.devRef .tc main_v2) (ix2 0 b) := by
  refine congrArg (V₁ m c (Proc.devRef .tc main_v2)) (funext fun a => Fin.ext ?_)
  match a with
  | ⟨0, _⟩ => rfl
  | ⟨1, _⟩ => show 0 * 1024 + 1 * b.val = b.val; omega
theorem xIn_g (c : Dev nD) (b : Fin 1024) : (xIn m).g c (ix2 0 b) = m ((c.tc : Thread nD τ).loc main_arg2) (ix1 b) := by
  rw [window_whole]
  unfold V₁ V₀
  after_results
  pointwise

end reads

/-! ## The result -/

/-- The arrays of the devices as the reference's are laid out: block `y` of the partial arrays on a
core whose second coordinate is `y`, the residual and the weight whole. -/
structure LaidOut (m : (ℓ : Loc nD τ sig) → Buf (Elt Ideal) ℓ) (X : FVec Ideal ⟨3, ![2, 1024, 1024]⟩ .f32)
    (R : FVec Ideal S1024x1024 .f32) (G : FVec Ideal S1024 .f32) : Prop where
  partials (c : Dev nD) (a b : Fin 1024) : m ((c.tc : Thread nD τ).loc main_arg0) (ix3 0 a b) = X (ix3 ⟨c.val / 2 % 2, by omega⟩ a b)
  residual (c : Dev nD) : m ((c.tc : Thread nD τ).loc main_arg1) = R
  weight (c : Dev nD) : m ((c.tc : Thread nD τ).loc main_arg2) = G

/-- A core and its neighbour along y hold the two partial arrays between them. -/
theorem both_blocks (X : Fin 2 → Ideal .f32) (c : Dev nD) :
    X ⟨c.val / 2 % 2, by omega⟩ + X ⟨(pr c 1).val / 2 % 2, by omega⟩ = X 0 + X 1 := by
  have h : ((⟨c.val / 2 % 2, by omega⟩ : Fin 2) = 0 ∧ (⟨(pr c 1).val / 2 % 2, by omega⟩ : Fin 2) = 1)
      ∨ ((⟨c.val / 2 % 2, by omega⟩ : Fin 2) = 1 ∧ (⟨(pr c 1).val / 2 % 2, by omega⟩ : Fin 2) = 0) := by
    revert c; decide
  rcases h with ⟨h, h'⟩ | ⟨h, h'⟩
  · rw [h, h']
  · rw [h, h', add_comm]

/-- Whichever core computes a tile, it computes the reference's rows. -/
theorem tile_value {m : (ℓ : Loc nD τ sig) → Buf (Elt Ideal) ℓ} {X : FVec Ideal ⟨3, ![2, 1024, 1024]⟩ .f32}
    {R : FVec Ideal S1024x1024 .f32} {G : FVec Ideal S1024 .f32} (h : LaidOut m X R G) (c : Dev nD) (g : Fin 4) (t i : Fin 16) (k : Fin 1024) :
    (xIn m).val c g t (ix2 i k) = Cert.ReferenceIdeal.Tiled.result X R G (ix2 (rowOf g t i) k) := by
  rw [Cert.ReferenceIdeal.Tiled.result_apply]
  refine (pay_apply _ _ _ _ i k).trans ?_
  have hs : ∀ l : Fin 1024, rows ((xIn m).p c) g t (ix2 i l) + rows ((xIn m).p (pr c 1)) g t (ix2 i l) + rows ((xIn m).r c) g t (ix2 i l)
      = Cert.ReferenceIdeal.Tiled.total X R (ix2 (rowOf g t i) l) := fun l => by
    rw [rows_apply, rows_apply, rows_apply, Cert.ReferenceIdeal.Tiled.total_apply, xIn_p, xIn_p, xIn_r, h.partials, h.partials, h.residual]
    exact congrArg (· + R (ix2 (rowOf g t i) l)) (both_blocks (fun y => X (ix3 y (rowOf g t i) l)) c)
  have hg : ∀ l : Fin 1024, (xIn m).g c (ix2 0 l) = G (ix1 l) := fun l => by rw [xIn_g, h.weight]
  rw [funext hs, funext hg]

/-- Every core's result is the reference's. -/
theorem out_value {m : (ℓ : Loc nD τ sig) → Buf (Elt Ideal) ℓ} {X : FVec Ideal ⟨3, ![2, 1024, 1024]⟩ .f32}
    {R : FVec Ideal S1024x1024 .f32} {G : FVec Ideal S1024 .f32} (h : LaidOut m X R G) (c : Dev nD) :
    outAt (xIn m) c = Cert.ReferenceIdeal.Tiled.result X R G := by
  funext j
  obtain ⟨g, t, i, hr⟩ := rowOf_surj (j 0)
  have hj : j = ix2 (rowOf g t i) (j 1) := (eq_ix2 j).trans (congrArg (ix2 · (j 1)) hr.symm)
  have e : outAt (xIn m) c (ix2 (rowOf g t i) (j 1)) = Cert.ReferenceIdeal.Tiled.result X R G (ix2 (rowOf g t i) (j 1)) :=
    (congrArg (outAt (xIn m) c) (emb_tile g t i (j 1)).symm).trans
      ((outAt_tile (xIn m) c g t (ix2 i (j 1))).trans (tile_value h (src c g t) g t i (j 1)))
  exact (congrArg (outAt (xIn m) c) hj).trans (e.trans (congrArg (Cert.ReferenceIdeal.Tiled.result X R G) hj.symm))

/-- The claim's layout of the reference's arrays over the devices, element by element. -/
theorem laidOut_of {m : (ℓ : Loc nD τ sig) → Buf (Elt Ideal) ℓ} {X : FVec Ideal ⟨3, ![2, 1024, 1024]⟩ .f32}
    {R : FVec Ideal S1024x1024 .f32} {G : FVec Ideal S1024 .f32}
    (h : ∀ c : Dev nD, m ((c.tc : Thread nD τ).loc main_arg0) = Layout.blockN ⟨3, ![1, 1024, 1024]⟩ ⟨3, ![2, 1024, 1024]⟩ (Layout.meshBlock [2, 2, 2] ![[1], [], []] c) X
      ∧ m ((c.tc : Thread nD τ).loc main_arg1) = R ∧ m ((c.tc : Thread nD τ).loc main_arg2) = G) : LaidOut m X R G where
  partials c a b := by
    rw [(h c).1]
    refine congrArg X (funext fun x => Fin.ext ?_)
    match x with
    | ⟨0, _⟩ => show (c.val / 2 % 2 * 1 + 0) * 1 + 0 = c.val / 2 % 2; omega
    | ⟨1, _⟩ => show 0 * 1024 + a.val = a.val; omega
    | ⟨2, _⟩ => show 0 * 1024 + b.val = b.val; omega
  residual c := (h c).2.1
  weight c := (h c).2.2

end Cert.KernelIdeal.Tiled
end
end
-- ==== Proof.Same.lean ====
/-
# The two texts are one program

The kernel and its idealization are printed in two namespaces and no operation differs, so their
programs are equal: what is proved of the one for any float values holds of the other.
-/
module

public import proofs.«01_k».proof.Proof.Gen.Kernel.Skeleton
public import proofs.«01_k».proof.Proof.Gen.KernelIdeal.Skeleton
public import Idealize.ShloMosaic.Lib.Tactic

@[expose] public section

noncomputable section

namespace Cert.SameText

open Idealize.ShloMosaic Idealize.ShloMosaic.TcCoe Idealize.SL.Sem

variable {F : FTy → Type} [FloatOps F]
attribute [local instance] Cert.Kernel.Gen.facts Cert.KernelIdeal.Gen.facts

/-- The programs' entries are equal. -/
theorem main_same : Cert.Kernel.main (F := F) = Cert.KernelIdeal.main (F := F) := rfl
/-- The programs' functions are equal. -/
theorem defs_same : Cert.Kernel.defs (F := F) = Cert.KernelIdeal.defs (F := F) := by sl_kernel_rfl

/-- What every run of the idealization ends with, every run of the kernel ends with. -/
theorem run_same (s : MemSt Cert.Kernel.nD Cert.Kernel.τ Cert.Kernel.sig (Elt F)) (Q) :
    θ_run (Cert.KernelIdeal.defs (F := F)) (onTc (τ := Cert.KernelIdeal.τ) (Cert.KernelIdeal.main (F := F))) s Q
      → θ_run (Cert.Kernel.defs (F := F)) (onTc (τ := Cert.Kernel.τ) (Cert.Kernel.main (F := F))) s Q := fun h => by
  rw [defs_same, main_same]
  exact h

end Cert.SameText
end
end
-- ==== Proof.lean ====
/-
# The certificate

The kernel's run is proved once, for any float values (`run_main`); the two frames of the kernel are
that run at the machine's words and at the extended reals, and the value claim adds that what the
cores end with is what the reference computes (`out_value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

open Cert.KernelIdeal.Tiled (run_main outAt xIn out_value laidOut_of)

/-- The kernel's frame: the run holds for any float values, so for the machine's. -/
theorem frame_kernel : Cert.quiescent_Kernel (hKernel := Cert.Kernel.Gen.facts) := fun m ρ _ =>
  Cert.SameText.run_same _ _ ((θ_run Cert.KernelIdeal.defs _ _).mono (fun _ h => ⟨fun c => (h.1 c).2, h.2⟩) (run_main (F := Bits) m ρ))

/-- The idealized kernel's frame: the same run at the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The reference's frame; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Tiled.run_result m ρ)

/-- On the reference's arrays, laid out over the devices, every device ends with the reference's result. -/
theorem same_value : Cert.algebraic_KernelIdeal_ReferenceIdeal (hKernelIdeal := Cert.KernelIdeal.Gen.facts)
    (hReferenceIdeal := Cert.ReferenceIdeal.Gen.facts) := fun m ρ m' ρ' _ hm =>
  ⟨_, (θ_run Cert.KernelIdeal.defs _ _).mono
      (fun _ h c => ⟨(h.1 c).1.trans (out_value (laidOut_of hm) c), (h.1 c).2⟩) (run_main (F := Ideal) m ρ),
    (θ_run Cert.ReferenceIdeal.defs _ _).mono (fun _ h => h 0) (Cert.ReferenceIdeal.Tiled.run_result m' ρ')⟩

/-- The five claims. -/
theorem claim : Cert.Claim := ⟨Cert.Kernel.Gen.facts, Cert.KernelIdeal.Gen.facts, Cert.ReferenceIdeal.Gen.facts,
  frame_kernel, frame_ideal, frame_reference, trivial, same_value⟩

end Cert.Proof

end
